-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_cross_of_class_codes [hPre_cross_of_class_codes : Cert.Pre_cross_of_class_codes.Facts] (m : (ℓ : Loc Cert.KernelIdeal.nD Cert.KernelIdeal.τ Cert.KernelIdeal.sig) → Buf (Elt Ideal) ℓ) : Prop :=
  ∀ c : Dev Cert.KernelIdeal.nD,
    (Cert.Pre_cross_of_class_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_cross_of_class_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_cross_of_class_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_cross_of_class_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cross_of_class_codes [hPre_cross_of_class_codes : Cert.Pre_cross_of_class_codes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cross_of_class_codes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_cross_of_class_codes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_cross_of_class_codes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_cross_of_class_codes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_cross_of_class_codes [hKernelIdeal : Cert.KernelIdeal.Facts] [hPre_cross_of_class_codes : Cert.Pre_cross_of_class_codes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cross_of_class_codes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_cross_of_class_codes [hReferenceIdeal : Cert.ReferenceIdeal.Facts] [hPre_cross_of_class_codes : Cert.Pre_cross_of_class_codes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cross_of_class_codes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_cross_of_class_codes [hKernelIdeal : Cert.KernelIdeal.Facts] [hReferenceIdeal : Cert.ReferenceIdeal.Facts] [hPre_cross_of_class_codes : Cert.Pre_cross_of_class_codes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cross_of_class_codes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_cross_of_class_codes : Cert.Pre_cross_of_class_codes.Facts),
    quiescent_Kernel (hKernel := hKernel)
    ∧ quiescent_KernelIdeal (hKernelIdeal := hKernelIdeal)
    ∧ quiescent_KernelIdeal_pre_cross_of_class_codes (hKernelIdeal := hKernelIdeal) (hPre_cross_of_class_codes := hPre_cross_of_class_codes)
    ∧ quiescent_ReferenceIdeal (hReferenceIdeal := hReferenceIdeal)
    ∧ quiescent_ReferenceIdeal_pre_cross_of_class_codes (hReferenceIdeal := hReferenceIdeal) (hPre_cross_of_class_codes := hPre_cross_of_class_codes)
    ∧ preserves_Kernel_KernelIdeal
    ∧ algebraic_KernelIdeal_ReferenceIdeal_pre_cross_of_class_codes (hKernelIdeal := hKernelIdeal) (hReferenceIdeal := hReferenceIdeal) (hPre_cross_of_class_codes := hPre_cross_of_class_codes)
-- ==== Pre_cross_of_class_codes.lean ====
abbrev S1x2048x2048 : Shape := ⟨3, ![1, 2048, 2048]⟩
abbrev S11 : Shape := ⟨1, ![11]⟩
abbrev S11x1x3x3 : Shape := ⟨4, ![11, 1, 3, 3]⟩
abbrev S3x3 : Shape := ⟨2, ![3, 3]⟩
abbrev S_ : Shape := ⟨0, ![]⟩
abbrev S1x1x1x1 : Shape := ⟨4, ![1, 1, 1, 1]⟩
abbrev S1x1x3x3 : Shape := ⟨4, ![1, 1, 3, 3]⟩

class Facts : Prop where
  bcast_S_S1x2048x2048 : S_.BroadcastsInDim S1x2048x2048 (![] : Fin 0 → Fin S1x2048x2048.rank)
  slices_S11x1x3x3_S1x1x1x1_0_0_0_1 : S11x1x3x3.Slices ![0, 0, 0, 1] S1x1x1x1
  shapeCasts_S1x1x1x1_S_ : S1x1x1x1.ShapeCasts S_
  bcast_S_S3x3 : S_.BroadcastsInDim S3x3 (![] : Fin 0 → Fin S3x3.rank)
  bcast_S3x3_S1x1x3x3_2_3 : S3x3.BroadcastsInDim S1x1x3x3 (![2, 3] : Fin 2 → Fin S1x1x3x3.rank)
  bcast_S1x1x3x3_S11x1x3x3_0_1_2_3 : S1x1x3x3.BroadcastsInDim S11x1x3x3 (![0, 1, 2, 3] : Fin 4 → Fin S11x1x3x3.rank)

variable [Facts]

noncomputable abbrev lit0 : Fin 9 → BitVec 1 := fun
  | 0 => 0#1 | 1 => 1#1 | 2 => 0#1 | 3 => 1#1 | 4 => 0#1 | 5 => 1#1 | 6 => 0#1 | 7 => 1#1
  | 8 => 0#1
  | _ => 0#1

noncomputable abbrev lit1 : Fin 11 → BitVec 32 := fun
  | 0 => 10#32 | 1 => 20#32 | 2 => 30#32 | 3 => 40#32 | 4 => 50#32 | 5 => 60#32 | 6 => 70#32 | 7 => 80#32
  | 8 => 90#32 | 9 => 95#32 | 10 => 100#32
  | _ => 0#32

def fn_where {F : FTy → Type} [FloatOps F] (arg0 : IVec S3x3 1) (arg1 : FVec F S_ .f32) (arg2 : FVec F S_ .f32) : FVec F S3x3 .f32 :=
  let v0 : FVec F S3x3 .f32 := broadcastInDim S3x3 ![] bcast_S_S3x3 arg1
  let v1 : FVec F S3x3 .f32 := broadcastInDim S3x3 ![] bcast_S_S3x3 arg2
  let v2 : FVec F S3x3 .f32 := select arg0 v0 v1
  v2

def fn_part2 {F : FTy → Type} [FloatOps F] (main_arg1 : IVec S11 32) (main_arg2 : FVec F S11x1x3x3 .f32) (main_c : IVec S3x3 1) (main_c_0 : IVec S11 32) (main_v31 : IVec S1x2048x2048 1) (main_v33 : FVec F S_ .f32) (main_cst : FVec F S_ .f32) : IVec S1x2048x2048 1 × IVec S11 1 × IVec S11x1x3x3 1 × IVec S_ 1 :=
  let main_v34 : FVec F S3x3 .f32 := fn_where (F := F) main_c main_v33 main_cst
  let main_v35 : IVec S11 1 := cmpi .eq main_arg1 main_c_0
  let main_v36 : FVec F S1x1x3x3 .f32 := broadcastInDim S1x1x3x3 ![2, 3] bcast_S3x3_S1x1x3x3_2_3 main_v34
  let main_v37 : FVec F S11x1x3x3 .f32 := broadcastInDim S11x1x3x3 ![0, 1, 2, 3] bcast_S1x1x3x3_S11x1x3x3_0_1_2_3 main_v36
  let main_v38 : IVec S11x1x3x3 1 := cmpf .oeq main_arg2 main_v37
  let main_cst_12 : FVec F S_ .f32 := constant S_ .f32 0x40900000#32
  let main_v39 : FVec F S_ .f32 := mulf main_v33 main_cst_12
  let main_cst_13 : FVec F S_ .f32 := constant S_ .f32 0x33D6BF95#32
  let main_v40 : IVec S_ 1 := cmpf .oge main_v39 main_cst_13
  (main_v31, main_v35, main_v38, main_v40)

def fn_part1 {F : FTy → Type} [FloatOps F] (main_arg0 : IVec S1x2048x2048 32) (main_arg1 : IVec S11 32) (main_arg2 : FVec F S11x1x3x3 .f32) (main_c : IVec S3x3 1) (main_c_0 : IVec S11 32) (main_v13 : IVec S1x2048x2048 1) (main_v15 : IVec S1x2048x2048 1) : IVec S1x2048x2048 1 × IVec S11 1 × IVec S11x1x3x3 1 × IVec S_ 1 :=
  let main_v16 : IVec S1x2048x2048 1 := ori main_v13 main_v15
  let main_c_7 : IVec S_ 32 := constantI S_ 32 70#32
  let main_v17 : IVec S1x2048x2048 32 := broadcastInDim S1x2048x2048 ![] bcast_S_S1x2048x2048 main_c_7
  let main_v18 : IVec S1x2048x2048 1 := cmpi .eq main_arg0 main_v17
  let main_v19 : IVec S1x2048x2048 1 := ori main_v16 main_v18
  let main_c_8 : IVec S_ 32 := constantI S_ 32 80#32
  let main_v20 : IVec S1x2048x2048 32 := broadcastInDim S1x2048x2048 ![] bcast_S_S1x2048x2048 main_c_8
  let main_v21 : IVec S1x2048x2048 1 := cmpi .eq main_arg0 main_v20
  let main_v22 : IVec S1x2048x2048 1 := ori main_v19 main_v21
  let main_c_9 : IVec S_ 32 := constantI S_ 32 90#32
  let main_v23 : IVec S1x2048x2048 32 := broadcastInDim S1x2048x2048 ![] bcast_S_S1x2048x2048 main_c_9
  let main_v24 : IVec S1x2048x2048 1 := cmpi .eq main_arg0 main_v23
  let main_v25 : IVec S1x2048x2048 1 := ori main_v22 main_v24
  let main_c_10 : IVec S_ 32 := constantI S_ 32 95#32
  let main_v26 : IVec S1x2048x2048 32 := broadcastInDim S1x2048x2048 ![] bcast_S_S1x2048x2048 main_c_10
  let main_v27 : IVec S1x2048x2048 1 := cmpi .eq main_arg0 main_v26
  let main_v28 : IVec S1x2048x2048 1 := ori main_v25 main_v27
  let main_c_11 : IVec S_ 32 := constantI S_ 32 100#32
  let main_v29 : IVec S1x2048x2048 32 := broadcastInDim S1x2048x2048 ![] bcast_S_S1x2048x2048 main_c_11
  let main_v30 : IVec S1x2048x2048 1 := cmpi .eq main_arg0 main_v29
  let main_v31 : IVec S1x2048x2048 1 := ori main_v28 main_v30
  let main_v32 : FVec F S1x1x1x1 .f32 := (extractStridedSlice S1x1x1x1 ![0, 0, 0, 1] · slices_S11x1x3x3_S1x1x1x1_0_0_0_1) main_arg2
  let main_v33 : FVec F S_ .f32 := shapeCast S_ main_v32 shapeCasts_S1x1x1x1_S_
  let main_cst : FVec F S_ .f32 := constant S_ .f32 0x00000000#32
  fn_part2 (F := F) main_arg1 main_arg2 main_c main_c_0 main_v31 main_v33 main_cst

def fn {F : FTy → Type} [FloatOps F] (main_arg0 : IVec S1x2048x2048 32) (main_arg1 : IVec S11 32) (main_arg2 : FVec F S11x1x3x3 .f32) : IVec S1x2048x2048 1 × IVec S11 1 × IVec S11x1x3x3 1 × IVec S_ 1 :=
  let main_c : IVec S3x3 1 := fun i => lit0 (S3x3.rowMajor i)
  let main_c_0 : IVec S11 32 := fun i => lit1 (S11.rowMajor i)
  let main_c_1 : IVec S_ 32 := constantI S_ 32 10#32
  let main_v0 : IVec S1x2048x2048 32 := broadcastInDim S1x2048x2048 ![] bcast_S_S1x2048x2048 main_c_1
  let main_v1 : IVec S1x2048x2048 1 := cmpi .eq main_arg0 main_v0
  let main_c_2 : IVec S_ 32 := constantI S_ 32 20#32
  let main_v2 : IVec S1x2048x2048 32 := broadcastInDim S1x2048x2048 ![] bcast_S_S1x2048x2048 main_c_2
  let main_v3 : IVec S1x2048x2048 1 := cmpi .eq main_arg0 main_v2
  let main_v4 : IVec S1x2048x2048 1 := ori main_v1 main_v3
  let main_c_3 : IVec S_ 32 := constantI S_ 32 30#32
  let main_v5 : IVec S1x2048x2048 32 := broadcastInDim S1x2048x2048 ![] bcast_S_S1x2048x2048 main_c_3
  let main_v6 : IVec S1x2048x2048 1 := cmpi .eq main_arg0 main_v5
  let main_v7 : IVec S1x2048x2048 1 := ori main_v4 main_v6
  let main_c_4 : IVec S_ 32 := constantI S_ 32 40#32
  let main_v8 : IVec S1x2048x2048 32 := broadcastInDim S1x2048x2048 ![] bcast_S_S1x2048x2048 main_c_4
  let main_v9 : IVec S1x2048x2048 1 := cmpi .eq main_arg0 main_v8
  let main_v10 : IVec S1x2048x2048 1 := ori main_v7 main_v9
  let main_c_5 : IVec S_ 32 := constantI S_ 32 50#32
  let main_v11 : IVec S1x2048x2048 32 := broadcastInDim S1x2048x2048 ![] bcast_S_S1x2048x2048 main_c_5
  let main_v12 : IVec S1x2048x2048 1 := cmpi .eq main_arg0 main_v11
  let main_v13 : IVec S1x2048x2048 1 := ori main_v10 main_v12
  let main_c_6 : IVec S_ 32 := constantI S_ 32 60#32
  let main_v14 : IVec S1x2048x2048 32 := broadcastInDim S1x2048x2048 ![] bcast_S_S1x2048x2048 main_c_6
  let main_v15 : IVec S1x2048x2048 1 := cmpi .eq main_arg0 main_v14
  fn_part1 (F := F) main_arg0 main_arg1 main_arg2 main_c main_c_0 main_v13 main_v15
-- ==== Kernel.lean ====
abbrev S1x2048x2048 : Shape := ⟨3, ![1, 2048, 2048]⟩
abbrev S11 : Shape := ⟨1, ![11]⟩
abbrev S11x1x3x3 : Shape := ⟨4, ![11, 1, 3, 3]⟩
abbrev S2048x2048 : Shape := ⟨2, ![2048, 2048]⟩
abbrev S1x1x3x3 : Shape := ⟨4, ![1, 1, 3, 3]⟩
abbrev S3x3 : Shape := ⟨2, ![3, 3]⟩
abbrev S_ : Shape := ⟨0, ![]⟩
abbrev S1x1 : Shape := ⟨2, ![1, 1]⟩
abbrev S1 : Shape := ⟨1, ![1]⟩
abbrev S3 : Shape := ⟨1, ![3]⟩
abbrev S11x2048x2048 : Shape := ⟨3, ![11, 2048, 2048]⟩
abbrev S4x128x2048 : Shape := ⟨3, ![4, 128, 2048]⟩
abbrev S2x11x128x2048 : Shape := ⟨4, ![2, 11, 128, 2048]⟩
abbrev S4 : Shape := ⟨1, ![4]⟩
abbrev S2 : Shape := ⟨1, ![2]⟩
abbrev S1x128x2048 : Shape := ⟨3, ![1, 128, 2048]⟩
abbrev S128x2048 : Shape := ⟨2, ![128, 2048]⟩
abbrev S11x128x2048 : Shape := ⟨3, ![11, 128, 2048]⟩
abbrev S1x11x128x2048 : Shape := ⟨4, ![1, 11, 128, 2048]⟩
abbrev S1x2048 : Shape := ⟨2, ![1, 2048]⟩
abbrev S1x1x2048 : Shape := ⟨3, ![1, 1, 2048]⟩
abbrev S127x2048 : Shape := ⟨2, ![127, 2048]⟩
abbrev S128x1 : Shape := ⟨2, ![128, 1]⟩
abbrev S128x2047 : Shape := ⟨2, ![128, 2047]⟩
abbrev S1x1x128x2048 : Shape := ⟨4, ![1, 1, 128, 2048]⟩

abbrev nBuf : Space → Nat
  | .hbm => 17
  | .vmem => 2
  | .smem => 2
  | _ => 0

abbrev bufTy : (tb : Table) → Fin (tcTables nBuf tb) → BufTy
  | .hbm, ⟨0, _⟩ => ⟨S1x2048x2048, .i32⟩
  | .hbm, ⟨1, _⟩ => ⟨S11, .i32⟩
  | .hbm, ⟨2, _⟩ => ⟨S11x1x3x3, .f32⟩
  | .hbm, ⟨3, _⟩ => ⟨S2048x2048, .i32⟩
  | .hbm, ⟨4, _⟩ => ⟨S1x1x3x3, .f32⟩
  | .hbm, ⟨5, _⟩ => ⟨S3x3, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S1, .f32⟩
  | .hbm, ⟨13, _⟩ => ⟨S1, .f32⟩
  | .hbm, ⟨14, _⟩ => ⟨S1, .f32⟩
  | .hbm, ⟨15, _⟩ => ⟨S3, .f32⟩
  | .hbm, ⟨16, _⟩ => ⟨S11x2048x2048, .f32⟩
  | .local _ .vmem, ⟨0, _⟩ => ⟨S4x128x2048, .i32⟩
  | .local _ .vmem, ⟨1, _⟩ => ⟨S2x11x128x2048, .f32⟩
  | .local _ .smem, ⟨0, _⟩ => ⟨S11, .i32⟩
  | .local _ .smem, ⟨1, _⟩ => ⟨S3, .f32⟩
  | _, _ => ⟨S1x2048x2048, .i32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_scratch0 : Ref sig .tc := ⟨.vmem, 0, rfl⟩
abbrev cc0_scratch1 : Ref sig .tc := ⟨.vmem, 1, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_9 : BitVec 32 := 0#32
  let c16_i32 : BitVec 32 := 16#32
  let v13 : BitVec 32 := Scalar.addi c0_i32_9 c16_i32
  let c1_i32_10 : BitVec 32 := 1#32
  ⟨c0_i32_9, v13, c1_i32_10⟩
def k0_cond2 (k0_t1 : Fin k0_t1_loop.trips) : BitVec 1 :=
  let c0_i32_9 : BitVec 32 := 0#32
  let c1_i32_10 : BitVec 32 := 1#32
  let arg8 : BitVec 32 := Scf.iv c0_i32_9 c1_i32_10 k0_t1
  let c1_i32_29 : BitVec 32 := 1#32
  let v35 : BitVec 32 := Scalar.addi arg8 c1_i32_29
  let c16_i32_30 : BitVec 32 := 16#32
  let v36 : BitVec 1 := Scalar.cmpi .slt v35 c16_i32_30
  let v37 : BitVec 32 := Scalar.extui v36
  let c0_i32_31 : BitVec 32 := 0#32
  let v38 : BitVec 1 := Scalar.cmpi .ne v37 c0_i32_31
  v38

def k0_off1 (k0_t1 : Fin k0_t1_loop.trips) : Fin 1 → Nat :=
  let c0_i32_9 : BitVec 32 := 0#32
  let c1_i32_10 : BitVec 32 := 1#32
  let arg8 : BitVec 32 := Scf.iv c0_i32_9 c1_i32_10 k0_t1
  let c1_i32_23 : BitVec 32 := 1#32
  let v27 : BitVec 32 := Scalar.addi arg8 c1_i32_23
  let c4_i32_24 : BitVec 32 := 4#32
  let v28 : BitVec 32 := Scalar.remsi v27 c4_i32_24
  ![v28.toNat]
def k0_off2 (k0_t1 : Fin k0_t1_loop.trips) : Fin 3 → Nat :=
  let c0_i32_9 : BitVec 32 := 0#32
  let c1_i32_10 : BitVec 32 := 1#32
  let arg8 : BitVec 32 := Scf.iv c0_i32_9 c1_i32_10 k0_t1
  let c1_i32_23 : BitVec 32 := 1#32
  let v27 : BitVec 32 := Scalar.addi arg8 c1_i32_23
  let c4_i32_24 : BitVec 32 := 4#32
  let v28 : BitVec 32 := Scalar.remsi v27 c4_i32_24
  let c0_i32_129 : BitVec 32 := 0#32
  let c0_i32_130 : BitVec 32 := 0#32
  ![v28.toNat, 0, 0]
def k0_off3 (k0_t1 : Fin k0_t1_loop.trips) : Fin 2 → Nat :=
  let c0_i32_9 : BitVec 32 := 0#32
  let c1_i32_10 : BitVec 32 := 1#32
  let arg8 : BitVec 32 := Scf.iv c0_i32_9 c1_i32_10 k0_t1
  let c1_i32_127 : BitVec 32 := 1#32
  let v317 : BitVec 32 := Scalar.addi arg8 c1_i32_127
  let c128_i32_128 : BitVec 32 := 128#32
  let v318 : BitVec 32 := Scalar.muli v317 c128_i32_128
  let c0_i32_131 : BitVec 32 := 0#32
  ![v318.toNat, 0]
def k0_cond3 (k0_t1 : Fin k0_t1_loop.trips) : BitVec 1 :=
  let c0_i32_9 : BitVec 32 := 0#32
  let c1_i32_10 : BitVec 32 := 1#32
  let arg8 : BitVec 32 := Scf.iv c0_i32_9 c1_i32_10 k0_t1
  let c2_i32_32 : BitVec 32 := 2#32
  let v39 : BitVec 1 := Scalar.cmpi .sge arg8 c2_i32_32
  let v40 : BitVec 32 := Scalar.extui v39
  let c0_i32_33 : BitVec 32 := 0#32
  let v41 : BitVec 1 := Scalar.cmpi .ne v40 c0_i32_33
  v41

def k0_off4 (k0_t1 : Fin k0_t1_loop.trips) : Fin 1 → Nat :=
  let c0_i32_9 : BitVec 32 := 0#32
  let c1_i32_10 : BitVec 32 := 1#32
  let arg8 : BitVec 32 := Scf.iv c0_i32_9 c1_i32_10 k0_t1
  let c2_i32_26 : BitVec 32 := 2#32
  let v31 : BitVec 32 := Scalar.remsi arg8 c2_i32_26
  ![v31.toNat]
def k0_off5 (k0_t1 : Fin k0_t1_loop.trips) : Fin 3 → Nat :=
  let c0_i32_129 : BitVec 32 := 0#32
  let c0_i32_9 : BitVec 32 := 0#32
  let c1_i32_10 : BitVec 32 := 1#32
  let arg8 : BitVec 32 := Scf.iv c0_i32_9 c1_i32_10 k0_t1
  let c2_i32_127 : BitVec 32 := 2#32
  let v317 : BitVec 32 := Scalar.subi arg8 c2_i32_127
  let c128_i32_128 : BitVec 32 := 128#32
  let v318 : BitVec 32 := Scalar.muli v317 c128_i32_128
  let c0_i32_130 : BitVec 32 := 0#32
  ![0, v318.toNat, 0]
def k0_off6 (k0_t1 : Fin k0_t1_loop.trips) : Fin 4 → Nat :=
  let c0_i32_9 : BitVec 32 := 0#32
  let c1_i32_10 : BitVec 32 := 1#32
  let arg8 : BitVec 32 := Scf.iv c0_i32_9 c1_i32_10 k0_t1
  let c2_i32_26 : BitVec 32 := 2#32
  let v31 : BitVec 32 := Scalar.remsi arg8 c2_i32_26
  let c0_i32_131 : BitVec 32 := 0#32
  let c0_i32_132 : BitVec 32 := 0#32
  let c0_i32_133 : BitVec 32 := 0#32
  ![v31.toNat, 0, 0, 0]
def k0_off7 (k0_t1 : Fin k0_t1_loop.trips) : Fin 3 → Nat :=
  let c0_i32_9 : BitVec 32 := 0#32
  let c1_i32_10 : BitVec 32 := 1#32
  let arg8 : BitVec 32 := Scf.iv c0_i32_9 c1_i32_10 k0_t1
  let c4_i32 : BitVec 32 := 4#32
  let v26 : BitVec 32 := Scalar.remsi arg8 c4_i32
  let v42 : Index := Scalar.indexCast v26
  let c0_34 : Index := 0#32
  let c0_35 : Index := 0#32
  ![v42.toNat, 0, 0]
def k0_off8 (k0_t1 : Fin k0_t1_loop.trips) : Fin 3 → Nat :=
  let c0_i32_9 : BitVec 32 := 0#32
  let c1_i32_10 : BitVec 32 := 1#32
  let arg8 : BitVec 32 := Scf.iv c0_i32_9 c1_i32_10 k0_t1
  let c3_i32 : BitVec 32 := 3#32
  let v29 : BitVec 32 := Scalar.addi arg8 c3_i32
  let c4_i32_25 : BitVec 32 := 4#32
  let v30 : BitVec 32 := Scalar.remsi v29 c4_i32_25
  let v47 : Index := Scalar.indexCast v30
  let c127 : Index := 127#32
  let c0_37 : Index := 0#32
  ![v47.toNat, 127, 0]
def k0_off9 (k0_t1 : Fin k0_t1_loop.trips) : Fin 3 → Nat :=
  let c0_i32_9 : BitVec 32 := 0#32
  let c1_i32_10 : BitVec 32 := 1#32
  let arg8 : BitVec 32 := Scf.iv c0_i32_9 c1_i32_10 k0_t1
  let c1_i32_23 : BitVec 32 := 1#32
  let v27 : BitVec 32 := Scalar.addi arg8 c1_i32_23
  let c4_i32_24 : BitVec 32 := 4#32
  let v28 : BitVec 32 := Scalar.remsi v27 c4_i32_24
  let v53 : Index := Scalar.indexCast v28
  let c0_39 : Index := 0#32
  let c0_40 : Index := 0#32
  ![v53.toNat, 0, 0]
def k0_off10 (k0_t1 : Fin k0_t1_loop.trips) : Fin 4 → Nat :=
  let c0_i32_9 : BitVec 32 := 0#32
  let c1_i32_10 : BitVec 32 := 1#32
  let arg8 : BitVec 32 := Scf.iv c0_i32_9 c1_i32_10 k0_t1
  let c2_i32_26 : BitVec 32 := 2#32
  let v31 : BitVec 32 := Scalar.remsi arg8 c2_i32_26
  let v191 : Index := Scalar.indexCast v31
  let c0_79 : Index := 0#32
  let c0_80 : Index := 0#32
  let c0_81 : Index := 0#32
  ![v191.toNat, 0, 0, 0]
def k0_off11 (k0_t1 : Fin k0_t1_loop.trips) : Fin 4 → Nat :=
  let c0_i32_9 : BitVec 32 := 0#32
  let c1_i32_10 : BitVec 32 := 1#32
  let arg8 : BitVec 32 := Scf.iv c0_i32_9 c1_i32_10 k0_t1
  let c2_i32_26 : BitVec 32 := 2#32
  let v31 : BitVec 32 := Scalar.remsi arg8 c2_i32_26
  let v203 : Index := Scalar.indexCast v31
  let c1_83 : Index := 1#32
  let c0_84 : Index := 0#32
  let c0_85 : Index := 0#32
  ![v203.toNat, 1, 0, 0]
def k0_off12 (k0_t1 : Fin k0_t1_loop.trips) : Fin 4 → Nat :=
  let c0_i32_9 : BitVec 32 := 0#32
  let c1_i32_10 : BitVec 32 := 1#32
  let arg8 : BitVec 32 := Scf.iv c0_i32_9 c1_i32_10 k0_t1
  let c2_i32_26 : BitVec 32 := 2#32
  let v31 : BitVec 32 := Scalar.remsi arg8 c2_i32_26
  let v215 : Index := Scalar.indexCast v31
  let c2_87 : Index := 2#32
  let c0_88 : Index := 0#32
  let c0_89 : Index := 0#32
  ![v215.toNat, 2, 0, 0]
def k0_off13 (k0_t1 : Fin k0_t1_loop.trips) : Fin 4 → Nat :=
  let c0_i32_9 : BitVec 32 := 0#32
  let c1_i32_10 : BitVec 32 := 1#32
  let arg8 : BitVec 32 := Scf.iv c0_i32_9 c1_i32_10 k0_t1
  let c2_i32_26 : BitVec 32 := 2#32
  let v31 : BitVec 32 := Scalar.remsi arg8 c2_i32_26
  let v225 : Index := Scalar.indexCast v31
  let c3 : Index := 3#32
  let c0_91 : Index := 0#32
  let c0_92 : Index := 0#32
  ![v225.toNat, 3, 0, 0]
def k0_off14 (k0_t1 : Fin k0_t1_loop.trips) : Fin 4 → Nat :=
  let c0_i32_9 : BitVec 32 := 0#32
  let c1_i32_10 : BitVec 32 := 1#32
  let arg8 : BitVec 32 := Scf.iv c0_i32_9 c1_i32_10 k0_t1
  let c2_i32_26 : BitVec 32 := 2#32
  let v31 : BitVec 32 := Scalar.remsi arg8 c2_i32_26
  let v235 : Index := Scalar.indexCast v31
  let c4 : Index := 4#32
  let c0_94 : Index := 0#32
  let c0_95 : Index := 0#32
  ![v235.toNat, 4, 0, 0]
def k0_off15 (k0_t1 : Fin k0_t1_loop.trips) : Fin 4 → Nat :=
  let c0_i32_9 : BitVec 32 := 0#32
  let c1_i32_10 : BitVec 32 := 1#32
  let arg8 : BitVec 32 := Scf.iv c0_i32_9 c1_i32_10 k0_t1
  let c2_i32_26 : BitVec 32 := 2#32
  let v31 : BitVec 32 := Scalar.remsi arg8 c2_i32_26
  let v247 : Index := Scalar.indexCast v31
  let c5 : Index := 5#32
  let c0_98 : Index := 0#32
  let c0_99 : Index := 0#32
  ![v247.toNat, 5, 0, 0]
def k0_off16 (k0_t1 : Fin k0_t1_loop.trips) : Fin 4 → Nat :=
  let c0_i32_9 : BitVec 32 := 0#32
  let c1_i32_10 : BitVec 32 := 1#32
  let arg8 : BitVec 32 := Scf.iv c0_i32_9 c1_i32_10 k0_t1
  let c2_i32_26 : BitVec 32 := 2#32
  let v31 : BitVec 32 := Scalar.remsi arg8 c2_i32_26
  let v259 : Index := Scalar.indexCast v31
  let c6 : Index := 6#32
  let c0_102 : Index := 0#32
  let c0_103 : Index := 0#32
  ![v259.toNat, 6, 0, 0]
def k0_off17 (k0_t1 : Fin k0_t1_loop.trips) : Fin 4 → Nat :=
  let c0_i32_9 : BitVec 32 := 0#32
  let c1_i32_10 : BitVec 32 := 1#32
  let arg8 : BitVec 32 := Scf.iv c0_i32_9 c1_i32_10 k0_t1
  let c2_i32_26 : BitVec 32 := 2#32
  let v31 : BitVec 32 := Scalar.remsi arg8 c2_i32_26
  let v271 : Index := Scalar.indexCast v31
  let c7 : Index := 7#32
  let c0_106 : Index := 0#32
  let c0_107 : Index := 0#32
  ![v271.toNat, 7, 0, 0]
def k0_off18 (k0_t1 : Fin k0_t1_loop.trips) : Fin 4 → Nat :=
  let c0_i32_9 : BitVec 32 := 0#32
  let c1_i32_10 : BitVec 32 := 1#32
  let arg8 : BitVec 32 := Scf.iv c0_i32_9 c1_i32_10 k0_t1
  let c2_i32_26 : BitVec 32 := 2#32
  let v31 : BitVec 32 := Scalar.remsi arg8 c2_i32_26
  let v283 : Index := Scalar.indexCast v31
  let c8 : Index := 8#32
  let c0_110 : Index := 0#32
  let c0_111 : Index := 0#32
  ![v283.toNat, 8, 0, 0]
def k0_off19 (k0_t1 : Fin k0_t1_loop.trips) : Fin 4 → Nat :=
  let c0_i32_9 : BitVec 32 := 0#32
  let c1_i32_10 : BitVec 32 := 1#32
  let arg8 : BitVec 32 := Scf.iv c0_i32_9 c1_i32_10 k0_t1
  let c2_i32_26 : BitVec 32 := 2#32
  let v31 : BitVec 32 := Scalar.remsi arg8 c2_i32_26
  let v293 : Index := Scalar.indexCast v31
  let c9 : Index := 9#32
  let c0_113 : Index := 0#32
  let c0_114 : Index := 0#32
  ![v293.toNat, 9, 0, 0]
def k0_off20 (k0_t1 : Fin k0_t1_loop.trips) : Fin 4 → Nat :=
  let c0_i32_9 : BitVec 32 := 0#32
  let c1_i32_10 : BitVec 32 := 1#32
  let arg8 : BitVec 32 := Scf.iv c0_i32_9 c1_i32_10 k0_t1
  let c2_i32_26 : BitVec 32 := 2#32
  let v31 : BitVec 32 := Scalar.remsi arg8 c2_i32_26
  let v303 : Index := Scalar.indexCast v31
  let c10 : Index := 10#32
  let c0_116 : Index := 0#32
  let c0_117 : Index := 0#32
  ![v303.toNat, 10, 0, 0]
def k0_cond4 (k0_t1 : Fin k0_t1_loop.trips) : BitVec 1 :=
  let c0_i32_9 : BitVec 32 := 0#32
  let c1_i32_10 : BitVec 32 := 1#32
  let arg8 : BitVec 32 := Scf.iv c0_i32_9 c1_i32_10 k0_t1
  let c2_i32_118 : BitVec 32 := 2#32
  let v307 : BitVec 32 := Scalar.addi arg8 c2_i32_118
  let c16_i32_119 : BitVec 32 := 16#32
  let v308 : BitVec 1 := Scalar.cmpi .slt v307 c16_i32_119
  let v309 : BitVec 32 := Scalar.extui v308
  let c0_i32_120 : BitVec 32 := 0#32
  let v310 : BitVec 1 := Scalar.cmpi .ne v309 c0_i32_120
  v310

def k0_off21 (k0_t1 : Fin k0_t1_loop.trips) : Fin 1 → Nat :=
  let c0_i32_9 : BitVec 32 := 0#32
  let c1_i32_10 : BitVec 32 := 1#32
  let arg8 : BitVec 32 := Scf.iv c0_i32_9 c1_i32_10 k0_t1
  let c2_i32_128 : BitVec 32 := 2#32
  let v318 : BitVec 32 := Scalar.addi arg8 c2_i32_128
  let c4_i32_129 : BitVec 32 := 4#32
  let v319 : BitVec 32 := Scalar.remsi v318 c4_i32_129
  ![v319.toNat]
def k0_off22 (k0_t1 : Fin k0_t1_loop.trips) : Fin 3 → Nat :=
  let c0_i32_9 : BitVec 32 := 0#32
  let c1_i32_10 : BitVec 32 := 1#32
  let arg8 : BitVec 32 := Scf.iv c0_i32_9 c1_i32_10 k0_t1
  let c2_i32_128 : BitVec 32 := 2#32
  let v318 : BitVec 32 := Scalar.addi arg8 c2_i32_128
  let c4_i32_129 : BitVec 32 := 4#32
  let v319 : BitVec 32 := Scalar.remsi v318 c4_i32_129
  let c0_i32_131 : BitVec 32 := 0#32
  let c0_i32_132 : BitVec 32 := 0#32
  ![v319.toNat, 0, 0]
def k0_off23 (k0_t1 : Fin k0_t1_loop.trips) : Fin 2 → Nat :=
  let c0_i32_9 : BitVec 32 := 0#32
  let c1_i32_10 : BitVec 32 := 1#32
  let arg8 : BitVec 32 := Scf.iv c0_i32_9 c1_i32_10 k0_t1
  let c2_i32_127 : BitVec 32 := 2#32
  let v317 : BitVec 32 := Scalar.addi arg8 c2_i32_127
  let c128_i32_130 : BitVec 32 := 128#32
  let v320 : BitVec 32 := Scalar.muli v317 c128_i32_130
  let c0_i32_133 : BitVec 32 := 0#32
  ![v320.toNat, 0]
def k0_off24 (k0_t1 : Fin k0_t1_loop.trips) : Fin 1 → Nat :=
  let c0_i32_9 : BitVec 32 := 0#32
  let c1_i32_10 : BitVec 32 := 1#32
  let arg8 : BitVec 32 := Scf.iv c0_i32_9 c1_i32_10 k0_t1
  let c2_i32_26 : BitVec 32 := 2#32
  let v31 : BitVec 32 := Scalar.remsi arg8 c2_i32_26
  ![v31.toNat]
def k0_off25 (k0_t1 : Fin k0_t1_loop.trips) : Fin 3 → Nat :=
  let c0_i32_122 : BitVec 32 := 0#32
  let c0_i32_9 : BitVec 32 := 0#32
  let c1_i32_10 : BitVec 32 := 1#32
  let arg8 : BitVec 32 := Scf.iv c0_i32_9 c1_i32_10 k0_t1
  let c128_i32_121 : BitVec 32 := 128#32
  let v311 : BitVec 32 := Scalar.muli arg8 c128_i32_121
  let c0_i32_123 : BitVec 32 := 0#32
  ![0, v311.toNat, 0]
def k0_off26 (k0_t1 : Fin k0_t1_loop.trips) : Fin 4 → Nat :=
  let c0_i32_9 : BitVec 32 := 0#32
  let c1_i32_10 : BitVec 32 := 1#32
  let arg8 : BitVec 32 := Scf.iv c0_i32_9 c1_i32_10 k0_t1
  let c2_i32_26 : BitVec 32 := 2#32
  let v31 : BitVec 32 := Scalar.remsi arg8 c2_i32_26
  let c0_i32_124 : BitVec 32 := 0#32
  let c0_i32_125 : BitVec 32 := 0#32
  let c0_i32_126 : BitVec 32 := 0#32
  ![v31.toNat, 0, 0, 0]
def k0_off27 (c14_i32 : BitVec 32) : Fin 1 → Nat :=
  let c2_i32 : BitVec 32 := 2#32
  let v14 : BitVec 32 := Scalar.remsi c14_i32 c2_i32
  ![v14.toNat]
def k0_off28 (c14_i32 : BitVec 32) : Fin 4 → Nat :=
  let c2_i32 : BitVec 32 := 2#32
  let v14 : BitVec 32 := Scalar.remsi c14_i32 c2_i32
  let c0_i32_14 : BitVec 32 := 0#32
  let c0_i32_15 : BitVec 32 := 0#32
  let c0_i32_16 : BitVec 32 := 0#32
  ![v14.toNat, 0, 0, 0]
abbrev stage0_0 : Fin 1 → Memref sig .tc .smem S11 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1x2048x2048 : Shape := ⟨3, ![1, 2048, 2048]⟩
abbrev S11 : Shape := ⟨1, ![11]⟩
abbrev S11x1x3x3 : Shape := ⟨4, ![11, 1, 3, 3]⟩
abbrev S1x1x2048x2048 : Shape := ⟨4, ![1, 1, 2048, 2048]⟩
abbrev S1x11x1x1 : Shape := ⟨4, ![1, 11, 1, 1]⟩
abbrev S1x11x2048x2048 : Shape := ⟨4, ![1, 11, 2048, 2048]⟩
abbrev S1x11x1x2048 : Shape := ⟨4, ![1, 11, 1, 2048]⟩
abbrev S1x11x2050x2048 : Shape := ⟨4, ![1, 11, 2050, 2048]⟩
abbrev S1x11x2050x1 : Shape := ⟨4, ![1, 11, 2050, 1]⟩
abbrev S1x11x2050x2050 : Shape := ⟨4, ![1, 11, 2050, 2050]⟩
abbrev S_ : Shape := ⟨0, ![]⟩
abbrev S11x1x1x1 : Shape := ⟨4, ![11, 1, 1, 1]⟩
abbrev S1x1x3x3 : Shape := ⟨4, ![1, 1, 3, 3]⟩
abbrev S3x3 : Shape := ⟨2, ![3, 3]⟩
abbrev S11x2048x2048 : Shape := ⟨3, ![11, 2048, 2048]⟩

abbrev nBuf : Space → Nat
  | .hbm => 100
  | .vmem => 0
  | .smem => 0
  | _ => 0

abbrev bufTy : (tb : Table) → Fin (tcTables nBuf tb) → BufTy
  | .hbm, ⟨0, _⟩ => ⟨S1x2048x2048, .i32⟩
  | .hbm, ⟨1, _⟩ => ⟨S11, .i32⟩
  | .hbm, ⟨2, _⟩ => ⟨S11x1x3x3, .f32⟩
  | .hbm, ⟨3, _⟩ => ⟨S1x1x2048x2048, .i32⟩
  | .hbm, ⟨4, _⟩ => ⟨S1x11x1x1, .i32⟩
  | .hbm, ⟨5, _⟩ => ⟨S1x11x2048x2048, .i32⟩
  | .hbm, ⟨6, _⟩ => ⟨S1x11x2048x2048, .i32⟩
  | .hbm, ⟨7, _⟩ => ⟨S1x11x2048x2048, .i1⟩
  | .hbm, ⟨8, _⟩ => ⟨S1x11x2048x2048, .f32⟩
  | .hbm, ⟨9, _⟩ => ⟨S1x11x1x2048, .f32⟩
  | .hbm, ⟨10, _⟩ => ⟨S1x11x1x2048, .f32⟩
  | .hbm, ⟨11, _⟩ => ⟨S1x11x2050x2048, .f32⟩
  | .hbm, ⟨12, _⟩ => ⟨S1x11x2050x1, .f32⟩
  | .hbm, ⟨13, _⟩ => ⟨S1x11x2050x1, .f32⟩
  | .hbm, ⟨14, _⟩ => ⟨S1x11x2050x2050, .f32⟩
  | .hbm, ⟨15, _⟩ => ⟨S_, .f32⟩
  | .hbm, ⟨16, _⟩ => ⟨S1x11x2048x2048, .f32⟩
  | .hbm, ⟨17, _⟩ => ⟨S11x1x1x1, .f32⟩
  | .hbm, ⟨18, _⟩ => ⟨S11, .f32⟩
  | .hbm, ⟨19, _⟩ => ⟨S1x11x1x1, .f32⟩
  | .hbm, ⟨20, _⟩ => ⟨S1x11x2048x2048, .f32⟩
  | .hbm, ⟨21, _⟩ => ⟨S1x11x2048x2048, .f32⟩
  | .hbm, ⟨22, _⟩ => ⟨S1x11x2048x2048, .f32⟩
  | .hbm, ⟨23, _⟩ => ⟨S1x11x2048x2048, .f32⟩
  | .hbm, ⟨24, _⟩ => ⟨S11x1x1x1, .f32⟩
  | .hbm, ⟨25, _⟩ => ⟨S11, .f32⟩
  | .hbm, ⟨26, _⟩ => ⟨S1x11x1x1, .f32⟩
  | .hbm, ⟨27, _⟩ => ⟨S1x11x2048x2048, .f32⟩
  | .hbm, ⟨28, _⟩ => ⟨S1x11x2048x2048, .f32⟩
  | .hbm, ⟨29, _⟩ => ⟨S1x11x2048x2048, .f32⟩
  | .hbm, ⟨30, _⟩ => ⟨S1x11x2048x2048, .f32⟩
  | .hbm, ⟨31, _⟩ => ⟨S11x1x1x1, .f32⟩
  | .hbm, ⟨32, _⟩ => ⟨S11, .f32⟩
  | .hbm, ⟨33, _⟩ => ⟨S1x11x1x1, .f32⟩
  | .hbm, ⟨34, _⟩ => ⟨S1x11x2048x2048, .f32⟩
  | .hbm, ⟨35, _⟩ => ⟨S1x11x2048x2048, .f32⟩
  | .hbm, ⟨36, _⟩ => ⟨S1x11x2048x2048, .f32⟩
  | .hbm, ⟨37, _⟩ => ⟨S1x11x2048x2048, .f32⟩
  | .hbm, ⟨38, _⟩ => ⟨S11x1x1x1, .f32⟩
  | .hbm, ⟨39, _⟩ => ⟨S11, .f32⟩
  | .hbm, ⟨40, _⟩ => ⟨S1x11x1x1, .f32⟩
  | .hbm, ⟨41, _⟩ => ⟨S1x11x2048x2048, .f32⟩
  | .hbm, ⟨42, _⟩ => ⟨S1x11x2048x2048, .f32⟩
  | .hbm, ⟨43, _⟩ => ⟨S1x11x2048x2048, .f32⟩
  | .hbm, ⟨44, _⟩ => ⟨S1x11x2048x2048, .f32⟩
  | .hbm, ⟨45, _⟩ => ⟨S11x1x1x1, .f32⟩
  | .hbm, ⟨46, _⟩ => ⟨S11, .f32⟩
  | .hbm, ⟨47, _⟩ => ⟨S1x11x1x1, .f32⟩
  | .hbm, ⟨48, _⟩ => ⟨S1x11x2048x2048, .f32⟩
  | .hbm, ⟨49, _⟩ => ⟨S1x11x2048x2048, .f32⟩
  | .hbm, ⟨50, _⟩ => ⟨S1x11x2048x2048, .f32⟩
  | .hbm, ⟨51, _⟩ => ⟨S1x11x2048x2048, .f32⟩
  | .hbm, ⟨52, _⟩ => ⟨S11x1x1x1, .f32⟩
  | .hbm, ⟨53, _⟩ => ⟨S11, .f32⟩
  | .hbm, ⟨54, _⟩ => ⟨S1x11x1x1, .f32⟩
  | .hbm, ⟨55, _⟩ => ⟨S1x11x2048x2048, .f32⟩
  | .hbm, ⟨56, _⟩ => ⟨S1x11x2048x2048, .f32⟩
  | .hbm, ⟨57, _⟩ => ⟨S1x11x2048x2048, .f32⟩
  | .hbm, ⟨58, _⟩ => ⟨S1x11x2048x2048, .f32⟩
  | .hbm, ⟨59, _⟩ => ⟨S11x1x1x1, .f32⟩
  | .hbm, ⟨60, _⟩ => ⟨S11, .f32⟩
  | .hbm, ⟨61, _⟩ => ⟨S1x11x1x1, .f32⟩
  | .hbm, ⟨62, _⟩ => ⟨S1x11x2048x2048, .f32⟩
  | .hbm, ⟨63, _⟩ => ⟨S1x11x2048x2048, .f32⟩
  | .hbm, ⟨64, _⟩ => ⟨S1x11x2048x2048, .f32⟩
  | .hbm, ⟨65, _⟩ => ⟨S1x11x2048x2048, .f32⟩
  | .hbm, ⟨66, _⟩ => ⟨S11x1x1x1, .f32⟩
  | .hbm, ⟨67, _⟩ => ⟨S11, .f32⟩
  | .hbm, ⟨68, _⟩ => ⟨S1x11x1x1, .f32⟩
  | .hbm, ⟨69, _⟩ => ⟨S1x11x2048x2048, .f32⟩
  | .hbm, ⟨70, _⟩ => ⟨S1x11x2048x2048, .f32⟩
  | .hbm, ⟨71, _⟩ => ⟨S1x11x2048x2048, .f32⟩
  | .hbm, ⟨72, _⟩ => ⟨S1x11x2048x2048, .f32⟩
  | .hbm, ⟨73, _⟩ => ⟨S11x1x1x1, .f32⟩
  | .hbm, ⟨74, _⟩ => ⟨S11, .f32⟩
  | .hbm, ⟨75, _⟩ => ⟨S1x11x1x1, .f32⟩
  | .hbm, ⟨76, _⟩ => ⟨S1x11x2048x2048, .f32⟩
  | .hbm, ⟨77, _⟩ => ⟨S1x11x2048x2048, .f32⟩
  | .hbm, ⟨78, _⟩ => ⟨S1x11x2048x2048, .f32⟩
  | .hbm, ⟨79, _⟩ => ⟨S1x11x2048x2048, .f32⟩
  | .hbm, ⟨80, _⟩ => ⟨S1x1x3x3, .f32⟩
  | .hbm, ⟨81, _⟩ => ⟨S3x3, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S1x11x2048x2048, .f32⟩
  | .hbm, ⟨88, _⟩ => ⟨S1x11x2048x2048, .i1⟩
  | .hbm, ⟨89, _⟩ => ⟨S1x11x2048x2048, .f32⟩
  | .hbm, ⟨90, _⟩ => ⟨S1x11x2048x2048, .f32⟩
  | .hbm, ⟨91, _⟩ => ⟨S_, .f32⟩
  | .hbm, ⟨92, _⟩ => ⟨S1x2048x2048, .f32⟩
  | .hbm, ⟨93, _⟩ => ⟨S1x1x2048x2048, .f32⟩
  | .hbm, ⟨94, _⟩ => ⟨S_, .f32⟩
  | .hbm, ⟨95, _⟩ => ⟨S1x1x2048x2048, .f32⟩
  | .hbm, ⟨96, _⟩ => ⟨S1x1x2048x2048, .f32⟩
  | .hbm, ⟨97, _⟩ => ⟨S1x11x2048x2048, .f32⟩
  | .hbm, ⟨98, _⟩ => ⟨S1x11x2048x2048, .f32⟩
  | .hbm, ⟨99, _⟩ => ⟨S11x2048x2048, .f32⟩
  | _, _ => ⟨S1x2048x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_cst_0 : Ref sig .tc := ⟨.hbm, 82, rfl⟩
abbrev main_v78 : Ref sig .tc := ⟨.hbm, 83, rfl⟩
abbrev main_cst_1 : Ref sig .tc := ⟨.hbm, 84, rfl⟩
abbrev main_v79 : Ref sig .tc := ⟨.hbm, 85, rfl⟩
abbrev main_cst_2 : Ref sig .tc := ⟨.hbm, 86, rfl⟩
abbrev main_v80 : Ref sig .tc := ⟨.hbm, 87, rfl⟩
abbrev main_v81 : Ref sig .tc := ⟨.hbm, 88, rfl⟩
abbrev main_call0_v0 : Ref sig .tc := ⟨.hbm, 89, rfl⟩
abbrev main_v82 : Ref sig .tc := ⟨.hbm, 90, rfl⟩
abbrev main_cst_3 : Ref sig .tc := ⟨.hbm, 91, rfl⟩
abbrev main_v83 : Ref sig .tc := ⟨.hbm, 92, rfl⟩
abbrev main_v84 : Ref sig .tc := ⟨.hbm, 93, rfl⟩
abbrev main_cst_4 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩

abbrev nD : Nat := 1
abbrev τ : Topo := Topo.v7x

variable {F : FTy → Type} [FloatOps F]
-- ==== Proof.Names.lean ====
/-
  The blocks, slots and semaphores of the stencil kernel by number, and the equations that turn what the body
  writes at a trip into those names.

  The target is 16 blocks of 128 rows; the result 16 blocks of 128 rows of each of its 11 classes. Input block `b`
  travels into slot `b % 4` of the input ring, and output block `b` out of slot `b % 2` of the output buffer, each
  slot on a semaphore of its own.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Tactic

@[expose] public section

noncomputable section

namespace Cert.Proof.Stencil

open Cert.KernelIdeal Cert.KernelIdeal.Gen
open Idealize.ShloMosaic
open Idealize.ShloMosaic.TcCoe Idealize.ShloMosaic.Tactic

/-! ## The arrays and buffers, whole -/

/-- The target, as the kernel reads it. -/
abbrev tgtM : Memref sig .tc .hbm S2048x2048 .i32 := Memref.whole main_v0
/-- The result. -/
abbrev resM : Memref sig .tc .hbm S11x2048x2048 .f32 := Memref.whole main_v11
/-- The input ring. -/
abbrev inM : Memref sig .tc .vmem S4x128x2048 .i32 := Memref.whole cc0_scratch0
/-- The output buffer. -/
abbrev outM : Memref sig .tc .vmem S2x11x128x2048 .f32 := Memref.whole cc0_scratch1

/-! ## Offsets -/

abbrev inBlkOff (b : Fin 16) : Fin 2 → Nat := ![128 * b.val, 0]
theorem inBlkOff_inb (b : Fin 16) : ∀ a, inBlkOff b a + S128x2048.size a ≤ S2048x2048.size a := by
  have := b.isLt; intro a; fin_cases a
  · show 128 * b.val + 128 ≤ 2048; omega
  · show 0 + 2048 ≤ 2048; omega
abbrev inSlotOff (s : Fin 4) : Fin 3 → Nat := ![s.val, 0, 0]
theorem inSlotOff_inb (s : Fin 4) : ∀ a, inSlotOff s a + S1x128x2048.size a ≤ S4x128x2048.size a := by
  have := s.isLt; intro a; fin_cases a
  · show s.val + 1 ≤ 4; omega
  · show 0 + 128 ≤ 128; omega
  · show 0 + 2048 ≤ 2048; omega
abbrev outBlkOff (b : Fin 16) : Fin 3 → Nat := ![0, 128 * b.val, 0]
theorem outBlkOff_inb (b : Fin 16) : ∀ a, outBlkOff b a + S11x128x2048.size a ≤ S11x2048x2048.size a := by
  have := b.isLt; intro a; fin_cases a
  · show 0 + 11 ≤ 11; omega
  · show 128 * b.val + 128 ≤ 2048; omega
  · show 0 + 2048 ≤ 2048; omega
abbrev outSlotOff (s : Fin 2) : Fin 4 → Nat := ![s.val, 0, 0, 0]
theorem outSlotOff_inb (s : Fin 2) : ∀ a, outSlotOff s a + S1x11x128x2048.size a ≤ S2x11x128x2048.size a := by
  have := s.isLt; intro a; fin_cases a
  · show s.val + 1 ≤ 2; omega
  · show 0 + 11 ≤ 11; omega
  · show 0 + 128 ≤ 128; omega
  · show 0 + 2048 ≤ 2048; omega
abbrev inSemOff (s : Fin 4) : Fin 1 → Nat := ![s.val]
theorem inSemOff_inb (s : Fin 4) : ∀ a, inSemOff s a + S1.size a ≤ S4.size a := by
  have := s.isLt; intro a; fin_cases a; show s.val + 1 ≤ 4; omega
abbrev outSemOff (s : Fin 2) : Fin 1 → Nat := ![s.val]
theorem outSemOff_inb (s : Fin 2) : ∀ a, outSemOff s a + S1.size a ≤ S2.size a := by
  have := s.isLt; intro a; fin_cases a; show s.val + 1 ≤ 2; omega

/-! ## The names -/

/-- Input block `b`: rows `128 b` to `128 b + 127` of the target. -/
def inBlk (b : Fin 16) : Memref sig .tc .hbm S128x2048 .i32 :=
  tgtM.slice (Rect.unit (s := S2048x2048) (inBlkOff b) S128x2048.size (inBlkOff_inb b)) (fun _ => rfl)
/-- Slot `s` of the input ring. -/
def inSlot (s : Fin 4) : Memref sig .tc .vmem S128x2048 .i32 :=
  (inM.slice (Rect.unit (s := S4x128x2048) (inSlotOff s) S1x128x2048.size (inSlotOff_inb s)) (fun _ => rfl)).squeeze S128x2048 squeezes_S1x128x2048_S128x2048
/-- Output block `b`: rows `128 b` to `128 b + 127` of every class of the result. -/
def outBlk (b : Fin 16) : Memref sig .tc .hbm S11x128x2048 .f32 :=
  resM.slice (Rect.unit (s := S11x2048x2048) (outBlkOff b) S11x128x2048.size (outBlkOff_inb b)) (fun _ => rfl)
/-- Slot `s` of the output buffer. -/
def outSlot (s : Fin 2) : Memref sig .tc .vmem S11x128x2048 .f32 :=
  (outM.slice (Rect.unit (s := S2x11x128x2048) (outSlotOff s) S1x11x128x2048.size (outSlotOff_inb s)) (fun _ => rfl)).squeeze S11x128x2048 squeezes_S1x11x128x2048_S11x128x2048
/-- Input slot `s`'s semaphore. -/
def inSem (s : Fin 4) : DmaSems sig S_ :=
  (cc0_scratch2.slice (Rect.unit (s := S4) (inSemOff s) S1.size (inSemOff_inb s))).squeeze S_ squeezes_S1_S_
/-- Output slot `s`'s semaphore. -/
def outSem (s : Fin 2) : DmaSems sig S_ :=
  (cc0_scratch3.slice (Rect.unit (s := S2) (outSemOff s) S1.size (outSemOff_inb s))).squeeze S_ squeezes_S1_S_

instance (s : Fin 4) : ClosedOff (inSlotOff s) := ⟨inSlotOff s, rfl⟩
instance (b : Fin 16) : ClosedOff (inBlkOff b) := ⟨inBlkOff b, rfl⟩
instance (s : Fin 2) : ClosedOff (outSlotOff s) := ⟨outSlotOff s, rfl⟩
instance (b : Fin 16) : ClosedOff (outBlkOff b) := ⟨outBlkOff b, rfl⟩

/-! ## What the chains of the induction variable come to, trip by trip -/

abbrev Trip : Type := Fin k0_t1_loop.trips

theorem trip_lt (k : Trip) : k.val < 16 := k.isLt

/-- The trip's four conditions. -/
theorem cond1_iff : ∀ k : Trip, (Scalar.cmpi .ne (Scalar.extui (Scalar.cmpi .eq (Scf.iv 0#32 1#32 k) 0#32) : BitVec 32) 0#32 = 1#1) ↔ k.val = 0 := by decide
theorem cond2_iff : ∀ k : Trip, k0_cond2 k = 1#1 ↔ k.val + 1 < 16 := by decide
theorem cond3_iff : ∀ k : Trip, k0_cond3 k = 1#1 ↔ 2 ≤ k.val := by decide
theorem cond4_iff : ∀ k : Trip, k0_cond4 k = 1#1 ↔ k.val + 2 < 16 := by decide

theorem off1_eq : ∀ k : Trip, k0_off1 k = inSemOff (Ring.sl 4 (k.val + 1)) := by decide
theorem off2_eq : ∀ k : Trip, k0_off2 k = inSlotOff (Ring.sl 4 (k.val + 1)) := by decide
theorem off3_eq : ∀ k : Trip, k.val + 1 < 16 → k0_off3 k = inBlkOff (Ring.bk 16 (k.val + 1)) := by decide
theorem off4_eq : ∀ k : Trip, k0_off4 k = outSemOff (Ring.sl 2 k.val) := by decide
theorem off5_eq : ∀ k : Trip, 2 ≤ k.val → k0_off5 k = outBlkOff (Ring.bk 16 (k.val - 2)) := by decide
theorem off6_eq : ∀ k : Trip, k0_off6 k = outSlotOff (Ring.sl 2 k.val) := by decide
theorem off7_eq : ∀ k : Trip, k0_off7 k = inSlotOff (Ring.sl 4 k.val) := by decide
theorem off8_eq : ∀ k : Trip, k0_off8 k = ![(Ring.sl 4 (k.val + 3)).val, 127, 0] := by decide
theorem off9_eq : ∀ k : Trip, k0_off9 k = ![(Ring.sl 4 (k.val + 1)).val, 0, 0] := by decide
theorem off10_eq : ∀ k : Trip, k0_off10 k = ![(Ring.sl 2 k.val).val, 0, 0, 0] := by decide
theorem off11_eq : ∀ k : Trip, k0_off11 k = ![(Ring.sl 2 k.val).val, 1, 0, 0] := by decide
theorem off12_eq : ∀ k : Trip, k0_off12 k = ![(Ring.sl 2 k.val).val, 2, 0, 0] := by decide
theorem off13_eq : ∀ k : Trip, k0_off13 k = ![(Ring.sl 2 k.val).val, 3, 0, 0] := by decide
theorem off14_eq : ∀ k : Trip, k0_off14 k = ![(Ring.sl 2 k.val).val, 4, 0, 0] := by decide
theorem off15_eq : ∀ k : Trip, k0_off15 k = ![(Ring.sl 2 k.val).val, 5, 0, 0] := by decide
theorem off16_eq : ∀ k : Trip, k0_off16 k = ![(Ring.sl 2 k.val).val, 6, 0, 0] := by decide
theorem off17_eq : ∀ k : Trip, k0_off17 k = ![(Ring.sl 2 k.val).val, 7, 0, 0] := by decide
theorem off18_eq : ∀ k : Trip, k0_off18 k = ![(Ring.sl 2 k.val).val, 8, 0, 0] := by decide
theorem off19_eq : ∀ k : Trip, k0_off19 k = ![(Ring.sl 2 k.val).val, 9, 0, 0] := by decide
theorem off20_eq : ∀ k : Trip, k0_off20 k = ![(Ring.sl 2 k.val).val, 10, 0, 0] := by decide
theorem off21_eq : ∀ k : Trip, k0_off21 k = inSemOff (Ring.sl 4 (k.val + 2)) := by decide
theorem off22_eq : ∀ k : Trip, k0_off22 k = inSlotOff (Ring.sl 4 (k.val + 2)) := by decide
theorem off23_eq : ∀ k : Trip, k.val + 2 < 16 → k0_off23 k = inBlkOff (Ring.bk 16 (k.val + 2)) := by decide
theorem off24_eq : ∀ k : Trip, k0_off24 k = outSemOff (Ring.sl 2 k.val) := by decide
theorem off25_eq : ∀ k : Trip, k0_off25 k = outBlkOff (Ring.bk 16 k.val) := by decide
theorem off26_eq : ∀ k : Trip, k0_off26 k = outSlotOff (Ring.sl 2 k.val) := by decide

instance (k : Trip) : ClosedOff (k0_off2 k) := ⟨_, off2_eq k⟩
instance (k : Trip) : ClosedOff (k0_off6 k) := ⟨_, off6_eq k⟩
instance (k : Trip) : ClosedOff (k0_off7 k) := ⟨_, off7_eq k⟩
instance (k : Trip) : ClosedOff (k0_off8 k) := ⟨_, off8_eq k⟩
instance (k : Trip) : ClosedOff (k0_off9 k) := ⟨_, off9_eq k⟩
instance (k : Trip) : ClosedOff (k0_off10 k) := ⟨_, off10_eq k⟩
instance (k : Trip) : ClosedOff (k0_off11 k) := ⟨_, off11_eq k⟩
instance (k : Trip) : ClosedOff (k0_off12 k) := ⟨_, off12_eq k⟩
instance (k : Trip) : ClosedOff (k0_off13 k) := ⟨_, off13_eq k⟩
instance (k : Trip) : ClosedOff (k0_off14 k) := ⟨_, off14_eq k⟩
instance (k : Trip) : ClosedOff (k0_off15 k) := ⟨_, off15_eq k⟩
instance (k : Trip) : ClosedOff (k0_off16 k) := ⟨_, off16_eq k⟩
instance (k : Trip) : ClosedOff (k0_off17 k) := ⟨_, off17_eq k⟩
instance (k : Trip) : ClosedOff (k0_off18 k) := ⟨_, off18_eq k⟩
instance (k : Trip) : ClosedOff (k0_off19 k) := ⟨_, off19_eq k⟩
instance (k : Trip) : ClosedOff (k0_off20 k) := ⟨_, off20_eq k⟩
instance (k : Trip) : ClosedOff (k0_off22 k) := ⟨_, off22_eq k⟩
instance (k : Trip) : ClosedOff (k0_off26 k) := ⟨_, off26_eq k⟩

/-! ## The body's slices are the names -/

section Congr

theorem inBlk_congr {off : Fin 2 → Nat} {b : Fin 16} (e : off = inBlkOff b) (hh hs) :
    (tgtM.slice (Rect.unit (s := S2048x2048) off S128x2048.size hh) hs) = inBlk b := Memref.slice_unit_congr _ e _ _ _ (fun _ => rfl)
theorem inSlot_congr {off : Fin 3 → Nat} {s : Fin 4} (e : off = inSlotOff s) (hh hs) :
    (inM.slice (Rect.unit (s := S4x128x2048) off S1x128x2048.size hh) hs).squeeze S128x2048 squeezes_S1x128x2048_S128x2048 = inSlot s :=
  congrArg (fun M : Memref sig .tc .vmem S1x128x2048 .i32 => M.squeeze S128x2048 squeezes_S1x128x2048_S128x2048) (Memref.slice_unit_congr _ e _ _ _ _)
theorem outBlk_congr {off : Fin 3 → Nat} {b : Fin 16} (e : off = outBlkOff b) (hh hs) :
    (resM.slice (Rect.unit (s := S11x2048x2048) off S11x128x2048.size hh) hs) = outBlk b := Memref.slice_unit_congr _ e _ _ _ (fun _ => rfl)
theorem outSlot_congr {off : Fin 4 → Nat} {s : Fin 2} (e : off = outSlotOff s) (hh hs) :
    (outM.slice (Rect.unit (s := S2x11x128x2048) off S1x11x128x2048.size hh) hs).squeeze S11x128x2048 squeezes_S1x11x128x2048_S11x128x2048 = outSlot s :=
  congrArg (fun M : Memref sig .tc .vmem S1x11x128x2048 .f32 => M.squeeze S11x128x2048 squeezes_S1x11x128x2048_S11x128x2048) (Memref.slice_unit_congr _ e _ _ _ _)
theorem inSem_congr {off : Fin 1 → Nat} {s : Fin 4} (e : off = inSemOff s) (hh) :
    (cc0_scratch2.slice (Rect.unit (s := S4) off S1.size hh)).squeeze S_ squeezes_S1_S_ = inSem s :=
  congrArg (fun A : DmaSems sig S1 => A.squeeze S_ squeezes_S1_S_) (SemArray.slice_unit_congr _ e _ _)
theorem outSem_congr {off : Fin 1 → Nat} {s : Fin 2} (e : off = outSemOff s) (hh) :
    (cc0_scratch3.slice (Rect.unit (s := S2) off S1.size hh)).squeeze S_ squeezes_S1_S_ = outSem s :=
  congrArg (fun A : DmaSems sig S1 => A.squeeze S_ squeezes_S1_S_) (SemArray.slice_unit_congr _ e _ _)

end Congr

/-! Before the loop, and at the wait that only trip 0 makes: blocks, slots and semaphores 0 and 1. -/

@[sl_canon] theorem inSem_at0 (hh) : (cc0_scratch2.slice (Rect.unit (s := S4) ![0] S1.size hh)).squeeze S_ squeezes_S1_S_ = inSem 0 := inSem_congr (by decide) _
@[sl_canon] theorem inSem_at1 (hh) : (cc0_scratch2.slice (Rect.unit (s := S4) ![1] S1.size hh)).squeeze S_ squeezes_S1_S_ = inSem 1 := inSem_congr (by decide) _
@[sl_canon] theorem inSlot_at0 (hh hs) : (inM.slice (Rect.unit (s := S4x128x2048) ![0, 0, 0] S1x128x2048.size hh) hs).squeeze S128x2048 squeezes_S1x128x2048_S128x2048 = inSlot 0 := inSlot_congr (by decide) _ _
@[sl_canon] theorem inSlot_at1 (hh hs) : (inM.slice (Rect.unit (s := S4x128x2048) ![1, 0, 0] S1x128x2048.size hh) hs).squeeze S128x2048 squeezes_S1x128x2048_S128x2048 = inSlot 1 := inSlot_congr (by decide) _ _
@[sl_canon] theorem inBlk_at0 (hh hs) : (tgtM.slice (Rect.unit (s := S2048x2048) ![0, 0] S128x2048.size hh) hs) = inBlk 0 := inBlk_congr (by decide) _ _
@[sl_canon] theorem inBlk_at1 (hh hs) : (tgtM.slice (Rect.unit (s := S2048x2048) ![128, 0] S128x2048.size hh) hs) = inBlk 1 := inBlk_congr (by decide) _ _

section AtTrip
variable (k : Trip)

/-! Trip `k` waits for block `k + 1`, -/
@[sl_canon] theorem inSem_wait (hh) : (cc0_scratch2.slice (Rect.unit (s := S4) (k0_off1 k) S1.size hh)).squeeze S_ squeezes_S1_S_ = inSem (Ring.sl 4 (k.val + 1)) := inSem_congr (off1_eq k) _
@[sl_canon] theorem inSlot_wait (hh hs) : (inM.slice (Rect.unit (s := S4x128x2048) (k0_off2 k) S1x128x2048.size hh) hs).squeeze S128x2048 squeezes_S1x128x2048_S128x2048 = inSlot (Ring.sl 4 (k.val + 1)) := inSlot_congr (off2_eq k) _ _
@[sl_canon] theorem inBlk_wait (hk : k.val + 1 < 16) (hh hs) : (tgtM.slice (Rect.unit (s := S2048x2048) (k0_off3 k) S128x2048.size hh) hs) = inBlk (Ring.bk 16 (k.val + 1)) := inBlk_congr (off3_eq k hk) _ _
/-! and for output block `k - 2`, -/
@[sl_canon] theorem outSem_wait (hh) : (cc0_scratch3.slice (Rect.unit (s := S2) (k0_off4 k) S1.size hh)).squeeze S_ squeezes_S1_S_ = outSem (Ring.sl 2 k.val) := outSem_congr (off4_eq k) _
@[sl_canon] theorem outBlk_wait (hk : 2 ≤ k.val) (hh hs) : (resM.slice (Rect.unit (s := S11x2048x2048) (k0_off5 k) S11x128x2048.size hh) hs) = outBlk (Ring.bk 16 (k.val - 2)) := outBlk_congr (off5_eq k hk) _ _
@[sl_canon] theorem outSlot_wait (hh hs) : (outM.slice (Rect.unit (s := S2x11x128x2048) (k0_off6 k) S1x11x128x2048.size hh) hs).squeeze S11x128x2048 squeezes_S1x11x128x2048_S11x128x2048 = outSlot (Ring.sl 2 k.val) := outSlot_congr (off6_eq k) _ _
/-! starts input block `k + 2`, -/
@[sl_canon] theorem inSem_start (hh) : (cc0_scratch2.slice (Rect.unit (s := S4) (k0_off21 k) S1.size hh)).squeeze S_ squeezes_S1_S_ = inSem (Ring.sl 4 (k.val + 2)) := inSem_congr (off21_eq k) _
@[sl_canon] theorem inSlot_start (hh hs) : (inM.slice (Rect.unit (s := S4x128x2048) (k0_off22 k) S1x128x2048.size hh) hs).squeeze S128x2048 squeezes_S1x128x2048_S128x2048 = inSlot (Ring.sl 4 (k.val + 2)) := inSlot_congr (off22_eq k) _ _
@[sl_canon] theorem inBlk_start (hk : k.val + 2 < 16) (hh hs) : (tgtM.slice (Rect.unit (s := S2048x2048) (k0_off23 k) S128x2048.size hh) hs) = inBlk (Ring.bk 16 (k.val + 2)) := inBlk_congr (off23_eq k hk) _ _
/-! and sends output block `k`. -/
@[sl_canon] theorem outSem_start (hh) : (cc0_scratch3.slice (Rect.unit (s := S2) (k0_off24 k) S1.size hh)).squeeze S_ squeezes_S1_S_ = outSem (Ring.sl 2 k.val) := outSem_congr (off24_eq k) _
@[sl_canon] theorem outBlk_start (hh hs) : (resM.slice (Rect.unit (s := S11x2048x2048) (k0_off25 k) S11x128x2048.size hh) hs) = outBlk (Ring.bk 16 k.val) := outBlk_congr (off25_eq k) _ _
@[sl_canon] theorem outSlot_start (hh hs) : (outM.slice (Rect.unit (s := S2x11x128x2048) (k0_off26 k) S1x11x128x2048.size hh) hs).squeeze S11x128x2048 squeezes_S1x11x128x2048_S11x128x2048 = outSlot (Ring.sl 2 k.val) := outSlot_congr (off26_eq k) _ _

end AtTrip

/-! After the loop: output blocks 14 and 15, out of slots 0 and 1. -/

@[sl_canon] theorem outSem_end0 (hh) : (cc0_scratch3.slice (Rect.unit (s := S2) (k0_off27 14#32) S1.size hh)).squeeze S_ squeezes_S1_S_ = outSem 0 := outSem_congr (by decide) _
@[sl_canon] theorem outSem_end1 (hh) : (cc0_scratch3.slice (Rect.unit (s := S2) (k0_off27 15#32) S1.size hh)).squeeze S_ squeezes_S1_S_ = outSem 1 := outSem_congr (by decide) _
@[sl_canon] theorem outSlot_end0 (hh hs) : (outM.slice (Rect.unit (s := S2x11x128x2048) (k0_off28 14#32) S1x11x128x2048.size hh) hs).squeeze S11x128x2048 squeezes_S1x11x128x2048_S11x128x2048 = outSlot 0 := outSlot_congr (by decide) _ _
@[sl_canon] theorem outSlot_end1 (hh hs) : (outM.slice (Rect.unit (s := S2x11x128x2048) (k0_off28 15#32) S1x11x128x2048.size hh) hs).squeeze S11x128x2048 squeezes_S1x11x128x2048_S11x128x2048 = outSlot 1 := outSlot_congr (by decide) _ _
@[sl_canon] theorem outBlk_end0 (hh hs) : (resM.slice (Rect.unit (s := S11x2048x2048) ![0, 1792, 0] S11x128x2048.size hh) hs) = outBlk 14 := outBlk_congr (by decide) _ _
@[sl_canon] theorem outBlk_end1 (hh hs) : (resM.slice (Rect.unit (s := S11x2048x2048) ![0, 1920, 0] S11x128x2048.size hh) hs) = outBlk 15 := outBlk_congr (by decide) _ _

end Cert.Proof.Stencil

end
-- ==== Proof.State.lean ====
/-
  What the kernel's core holds before each trip of its loop: input blocks at home, in a slot or on their way into
  one, output blocks not yet written, on their way out or written.
-/
module

public import proofs.«01_k».proof.Proof.Names

@[expose] public section

noncomputable section

namespace Cert.Proof.Stencil

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the launch's, beside the counters that the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

section Pieces
variable (c : Dev nD) (XT : Buf (Elt F) (tgtM.view.loc (c : Thread nD τ))) (XO : Buf (Elt F) (resM.view.loc (c : Thread nD τ)))

/-- Input slot `s`'s semaphore at zero. -/
abbrev inCell (s : Fin 4) : sProp 𝕄 := semVal ((c : Thread nD τ), SemLoc.dma (inSem s).sem) 0
/-- Output slot `s`'s semaphore at zero. -/
abbrev outCell (s : Fin 2) : sProp 𝕄 := semVal ((c : Thread nD τ), SemLoc.dma (outSem s).sem) 0
/-- Input slot `s` held at contents `f`. -/
abbrev inHas (s : Fin 4) (f : Buf (Elt F) ((inSlot s).view.loc (c : Thread nD τ))) : sProp 𝕄 :=
  (inSlot s).view.loc (c : Thread nD τ) ↦[(inSlot s).view.set]{fullShare} f
/-- Output slot `s` held at contents `f`. -/
abbrev outHas (s : Fin 2) (f : Buf (Elt F) ((outSlot s).view.loc (c : Thread nD τ))) : sProp 𝕄 :=
  (outSlot s).view.loc (c : Thread nD τ) ↦[(outSlot s).view.set]{fullShare} f
/-- Input block `b` at home, at the target's contents. -/
abbrev inHome (b : Fin 16) : sProp 𝕄 := (inBlk b).view.loc (c : Thread nD τ) ↦[(inBlk b).view.set]{fullShare} XT
/-- Output block `b` held at contents `f`. -/
abbrev resHas (b : Fin 16) (f : Buf (Elt F) ((outBlk b).view.loc (c : Thread nD τ))) : sProp 𝕄 :=
  (outBlk b).view.loc (c : Thread nD τ) ↦[(outBlk b).view.set]{fullShare} f

/-- Input block `b`'s words, as a transfer carries them. -/
abbrev inWords (b : Fin 16) : S128x2048.Idx → Elt F .i32 := ReadAs.same.apply ((inBlk b).view.read (Elt F) XT)
/-- Slot `s` after block `b` has landed over `f`. -/
abbrev landed (s : Fin 4) (b : Fin 16) (f : Buf (Elt F) ((inSlot s).view.loc (c : Thread nD τ))) : Buf (Elt F) ((inSlot s).view.loc (c : Thread nD τ)) :=
  (inSlot s).view.writes (Elt F) f [⟨Rect.whole S128x2048, inWords c XT b⟩]
/-- Slot `s` holding block `b`, nothing else said. -/
abbrev holds (s : Fin 4) (b : Fin 16) : sProp 𝕄 := inHas c s (landed c XT s b (inSlot s).view.junk)
/-- Slot `s` free: at anything, its semaphore at zero. -/
abbrev inFree (s : Fin 4) : sProp 𝕄 := iprop((∃ f, inHas c s f) ∗ inCell c s)
/-- Output slot `s` free. -/
abbrev outFree (s : Fin 2) : sProp 𝕄 := iprop((∃ f, outHas c s f) ∗ outCell c s)
/-- Block `b` on its way into slot `s`, which held `f`. -/
abbrev inFlight (s : Fin 4) (b : Fin 16) (f : Buf (Elt F) ((inSlot s).view.loc (c : Thread nD τ))) : sProp 𝕄 :=
  Transfers.Flight countersEmb (c : Thread nD τ) (SemLoc.dma (inSem s).sem) () 32768 iprop(inHas c s (landed c XT s b f) ∗ inHome c XT b)
/-- Output block `b` after the words `p` have landed in it. -/
abbrev written (b : Fin 16) (p : S11x128x2048.Idx → Elt F .f32) : Buf (Elt F) ((outBlk b).view.loc (c : Thread nD τ)) :=
  (outBlk b).view.writes (Elt F) XO [⟨Rect.whole S11x128x2048, p⟩]
/-- The words `p` on their way from slot `s`, at `g`, to output block `b`. -/
abbrev outFlight (s : Fin 2) (b : Fin 16) (p : S11x128x2048.Idx → Elt F .f32) (g : Buf (Elt F) ((outSlot s).view.loc (c : Thread nD τ))) : sProp 𝕄 :=
  Transfers.Flight countersEmb (c : Thread nD τ) (SemLoc.dma (outSem s).sem) () 360448 iprop(resHas c b (written c XO b p) ∗ outHas c s g)

end Pieces

end Cert.Proof.Stencil

end
-- ==== Proof.Block.lean ====
/-
  What one trip of the loop computes: from the 128 rows it has loaded and from the row above and the row below them,
  the 128 rows of each of the 11 classes that it stores. And what the ring slots and the output slot hold, index by
  index.
-/
module

public import proofs.«01_k».proof.Proof.State
public import Idealize.ShloMosaic.Lib.Pipeline.Value
public import Idealize.ShloMosaic.Lib.Pointwise

@[expose] public section

noncomputable section

namespace Cert.Proof.Stencil

open Cert.KernelIdeal Cert.KernelIdeal.Gen
open Idealize.ShloMosaic
open Idealize.ShloMosaic.TcCoe Idealize.ShloMosaic.Tactic

variable {F : FTy → Type} [FloatOps F]

/-! ## The computation -/

section Compute
variable (w wt s : Elt F .f32) (cur : Vec F S1x128x2048 .i32) (up dn : IVec S1x2048 32)

/-- The class number of each pixel of the block. -/
def digits : IVec S128x2048 32 := k0_pay5 (k0_pay1 cur) (k0_pay4 cur) 11#32
/-- The pixels' indicators, packed: class numbers 0 to 4, -/
def encA : IVec S128x2048 32 := k0_pay8 (k0_pay1 cur) (k0_pay4 cur) 11#32
/-- and class numbers 5 to 10. -/
def encB : IVec S128x2048 32 := k0_pay9 (k0_pay1 cur) (k0_pay4 cur) 11#32
/-- The four neighbours' indicators (not yet the pixel's own), class numbers 0 to 4. -/
def nbrA : IVec S128x2048 32 := k0_pay20 dn (encA cur) (k0_pay11 up) (k0_pay14 up) 0#32
/-- The packed counts, class numbers 0 to 4, -/
def sumA : IVec S128x2048 32 := k0_pay22 (nbrA cur up dn) (k0_pay21 (encA cur))
/-- and class numbers 5 to 10. -/
def sumB : IVec S128x2048 32 := k0_pay23 (encB cur) (k0_pay15 (k0_pay11 up) (k0_pay13 up)) (k0_pay19 dn)
/-- The pixel's scale: the neighbour weight over the pixel's total. -/
def scale : FVec F S128x2048 .f32 :=
  k0_pay24 w wt s (digits cur) (encB cur) (k0_pay15 (k0_pay11 up) (k0_pay13 up)) (k0_pay19 dn)
    (nbrA cur up dn) (k0_pay21 (encA cur))
/-- Class 0's rows before they are shaped for the store. -/
def first : FVec F S128x2048 .f32 :=
  k0_pay26 w wt s (digits cur) (encB cur) (k0_pay15 (k0_pay11 up) (k0_pay13 up)) (k0_pay19 dn)
    (nbrA cur up dn) (k0_pay21 (encA cur))

/-- What is stored for each class. -/
def classRows : Fin 11 → FVec F S1x1x128x2048 .f32 :=
  ![k0_pay27 (first w wt s cur up dn),
    k0_pay28 (sumA cur up dn) (scale w wt s cur up dn) (k0_pay25 w wt),
    k0_pay29 (sumA cur up dn) (scale w wt s cur up dn) (k0_pay25 w wt),
    k0_pay30 (sumA cur up dn) (scale w wt s cur up dn) (k0_pay25 w wt),
    k0_pay32 (scale w wt s cur up dn) (k0_pay31 (sumB cur up dn) (k0_pay25 w wt)),
    k0_pay33 (sumB cur up dn) (scale w wt s cur up dn) (k0_pay25 w wt),
    k0_pay34 (sumB cur up dn) (scale w wt s cur up dn) (k0_pay25 w wt),
    k0_pay36 (k0_pay35 (sumB cur up dn) (scale w wt s cur up dn) (k0_pay25 w wt)),
    k0_pay37 (sumB cur up dn) (scale w wt s cur up dn) (k0_pay25 w wt),
    k0_pay38 (sumA cur up dn) (scale w wt s cur up dn) (k0_pay25 w wt),
    k0_pay39 (sumB cur up dn) (scale w wt s cur up dn) (k0_pay25 w wt)]

/-- The 11 classes' rows as one array. -/
def blockWords : S11x128x2048.Idx → Elt F .f32 :=
  fun i => classRows w wt s cur up dn (i 0) (ix4 (0 : Fin 1) (0 : Fin 1) (i 1) (i 2))

end Compute

/-! ## The rows a trip works on -/

section Rows
variable (c : Dev nD) (XT : Buf (Elt F) (tgtM.view.loc (c : Thread nD τ)))

/-- The target, index by index. -/
def words : S2048x2048.Idx → Elt F .i32 := tgtM.view.read (Elt F) XT

/-- Rows `128 b` on of the target. -/
def rowsAt (b : Fin 16) : Vec F S1x128x2048 .i32 := fun i => words c XT (ix2 ⟨128 * b.val + (i 1).val, by have := b.isLt; have := (i 1).isLt; change _ < 128 at this; omega⟩ (i 2))
/-- One row of the target. -/
def rowAt (r : Fin 2048) : Vec F S1x1x2048 .i32 := fun i => words c XT (ix2 r (i 2))

omit [FloatOps F] in
/-- Slot `s` once block `b` has landed in it, read through the whole ring. -/
theorem read_landed (s : Fin 4) (b : Fin 16) (f : Buf (Elt F) ((inSlot s).view.loc (c : Thread nD τ))) (j : S4x128x2048.Idx) (h0 : j 0 = s) :
    inM.view.read (Elt F) (landed c XT s b f) j
      = words c XT (ix2 ⟨128 * b.val + (j 1).val, by have := b.isLt; have := (j 1).isLt; change _ < 128 at this; omega⟩ (j 2)) := by
  have e1 : (inSlot s).view.read (Elt F) (landed c XT s b f) = inWords c XT b := by
    funext i
    have e : (Rect.whole S128x2048).emb i = i := Rect.emb_whole_apply S128x2048 i
    conv_lhs => rw [← e]
    exact View.read_writes_cons_emb (inSlot s).view f (Rect.whole S128x2048) (inWords c XT b) [] i
  have e2 : (inSlot s).view.read (Elt F) (landed c XT s b f) (ix2 (j 1) (j 2)) = inM.view.read (Elt F) (landed c XT s b f) j := by
    have hc : (Rect.unit (s := S4x128x2048) (inSlotOff s) S1x128x2048.size (inSlotOff_inb s)).shape.ShapeCasts S128x2048 := shapeCasts_S1x128x2048_S128x2048
    have h := congrFun (Memref.read_squeeze_slice (Val := Elt F) inM (Rect.unit (s := S4x128x2048) (inSlotOff s) S1x128x2048.size (inSlotOff_inb s)) (fun _ => rfl)
      squeezes_S1x128x2048_S128x2048 hc (landed c XT s b f)) (ix2 (j 1) (j 2))
    refine h.trans ((shapeCast_dropUnit_apply _ _ _ _).trans ?_)
    refine congrArg (inM.view.read (Elt F) (landed c XT s b f)) (funext fun a => Fin.ext ?_)
    subst h0
    fin_cases a
    · show (j 0).val + 1 * 0 = (j 0).val; omega
    · show 0 + 1 * (j 1).val = (j 1).val; omega
    · show 0 + 1 * (j 2).val = (j 2).val; omega
  rw [← e2, e1]
  refine congrArg (tgtM.view.read (Elt F) XT) (funext fun a => Fin.ext ?_)
  fin_cases a
  · show 128 * b.val + 1 * (j 1).val = 128 * b.val + (j 1).val; omega
  · show 0 + 1 * (j 2).val = (j 2).val; omega

omit [FloatOps F] in
/-- The output slot, read index by index. -/
theorem read_outSlot (o : Fin 2) (f : Buf (Elt F) ((outSlot o).view.loc (c : Thread nD τ))) (i : S11x128x2048.Idx) :
    (outSlot o).view.read (Elt F) f i = outM.view.read (Elt F) f (ix4 o (i 0) (i 1) (i 2)) := by
  have hc : (Rect.unit (s := S2x11x128x2048) (outSlotOff o) S1x11x128x2048.size (outSlotOff_inb o)).shape.ShapeCasts S11x128x2048 := squeezes_S1x11x128x2048_S11x128x2048.numel_eq
  have h := congrFun (Memref.read_squeeze_slice (Val := Elt F) outM (Rect.unit (s := S2x11x128x2048) (outSlotOff o) S1x11x128x2048.size (outSlotOff_inb o)) (fun _ => rfl)
    squeezes_S1x11x128x2048_S11x128x2048 hc f) i
  refine h.trans ((shapeCast_dropUnit_apply _ _ _ _).trans ?_)
  refine congrArg (outM.view.read (Elt F) f) (funext fun a => Fin.ext ?_)
  fin_cases a
  · show o.val + 1 * 0 = o.val; omega
  · show 0 + 1 * (i 0).val = (i 0).val; omega
  · show 0 + 1 * (i 1).val = (i 1).val; omega
  · show 0 + 1 * (i 2).val = (i 2).val; omega

/-- Where a store of one class's rows into the output slot puts them. -/
theorem stored_in (o : Fin 2) (cl d : Fin 11) (r : Fin 128) (x : Fin 2048) :
    (∀ a : Fin 4, (![o.val, cl.val, 0, 0] : Fin 4 → ℕ) a ≤ (ix4 o d r x a).val
      ∧ (ix4 o d r x a).val < (![o.val, cl.val, 0, 0] : Fin 4 → ℕ) a + S1x1x128x2048.size a) ↔ d = cl := by
  constructor
  · intro h
    have h1 : cl.val ≤ d.val ∧ d.val < cl.val + 1 := h 1
    exact Fin.ext (by omega)
  · rintro rfl a
    have hr := r.isLt
    have hx := x.isLt
    match a with
    | ⟨0, _⟩ => show o.val ≤ o.val ∧ o.val < o.val + 1; omega
    | ⟨1, _⟩ => show d.val ≤ d.val ∧ d.val < d.val + 1; omega
    | ⟨2, _⟩ => show 0 ≤ r.val ∧ r.val < 0 + 128; omega
    | ⟨3, _⟩ => show 0 ≤ x.val ∧ x.val < 0 + 2048; omega

omit [FloatOps F] in
/-- One class's rows stored into the output slot, read through the whole buffer. -/
theorem read_stored {o : Fin 2} {off : Fin 4 → ℕ} {n : ℕ} (e : off = ![o.val, n, 0, 0]) (cl : Fin 11)
    {hb : ∀ a, off a + S1x1x128x2048.size a ≤ S2x11x128x2048.size a} {f : outM.view.ty.Contents (Elt F)}
    {p : S1x1x128x2048.Idx → Elt F .f32} {d : Fin 11} {r : Fin 128} {x : Fin 2048} {z : Elt F .f32}
    (hz : outM.view.read (Elt F) f (ix4 o d r x) = z) (hn : n = cl.val := by rfl) :
    outM.view.read (Elt F) ((outM.access (Rect.unit (s := S2x11x128x2048) off S1x1x128x2048.size hb)).write (Elt F) f p Finset.univ) (ix4 o d r x)
      = if d = cl then p (ix4 (0 : Fin 1) (0 : Fin 1) r x) else z := by
  subst e hn hz
  by_cases hd : d = cl
  · subst hd
    rw [if_pos rfl]
    have hi : (Rect.unit (s := S2x11x128x2048) ![o.val, d.val, 0, 0] S1x1x128x2048.size hb).emb (ix4 (0 : Fin 1) (0 : Fin 1) r x) = ix4 o d r x :=
      funext fun a => Fin.ext (by
        match a with
        | ⟨0, _⟩ => show o.val + 1 * 0 = o.val; omega
        | ⟨1, _⟩ => show d.val + 1 * 0 = d.val; omega
        | ⟨2, _⟩ => show 0 + 1 * r.val = r.val; omega
        | ⟨3, _⟩ => show 0 + 1 * x.val = x.val; omega)
    have h := View.read_slice_write_emb (v := outM.view) (Val := Elt F) (Rect.unit (s := S2x11x128x2048) ![o.val, d.val, 0, 0] S1x1x128x2048.size hb) f p
      (Finset.mem_univ (ix4 (0 : Fin 1) (0 : Fin 1) r x))
    rw [hi] at h
    exact h
  · rw [if_neg hd]
    refine View.read_slice_write_of_not_mem (v := outM.view) (Val := Elt F) (Rect.unit (s := S2x11x128x2048) ![o.val, cl.val, 0, 0] S1x1x128x2048.size hb) f p Finset.univ ?_
    rw [Rect.map_emb_univ]
    exact fun hm => hd ((stored_in o cl d r x).mp (Rect.mem_set_unit.mp hm))

/-! ## What a trip stores, whatever the slot held -/

/-- The row above block `b`: the last row of the block before it; for the first block its own first row. -/
def upOf (b : Fin 16) : IVec S1x2048 32 := fun i => words c XT (ix2 ⟨128 * b.val - 1, by have := b.isLt; omega⟩ (i 1))
/-- The row below block `b`: the first row of the block after it; for the last block its own last row. -/
def dnOf (b : Fin 16) : IVec S1x2048 32 := fun i => words c XT (ix2 ⟨min (128 * b.val + 128) 2047, by omega⟩ (i 1))

/-- The 11 classes' rows of block `b`. -/
def outWords (w wt s : Elt F .f32) (b : Fin 16) : S11x128x2048.Idx → Elt F .f32 :=
  blockWords w wt s (rowsAt c XT b) (upOf c XT b) (dnOf c XT b)

/-- The 11 stores of a trip, one per class, leave each class's rows at its place in the slot, whatever the slot held. -/
theorem stored_all (p : Fin 11 → S1x1x128x2048.Idx → Elt F .f32) (k : Trip) (g : outM.view.ty.Contents (Elt F)) (d : Fin 11) (r : Fin 128) (x : Fin 2048) :
    outM.view.read (Elt F)
      ((outM.access (Rect.unit (s := S2x11x128x2048) (k0_off20 k) S1x1x128x2048.size (k0_off20_inb k))).write (Elt F)
      ((outM.access (Rect.unit (s := S2x11x128x2048) (k0_off19 k) S1x1x128x2048.size (k0_off19_inb k))).write (Elt F)
      ((outM.access (Rect.unit (s := S2x11x128x2048) (k0_off18 k) S1x1x128x2048.size (k0_off18_inb k))).write (Elt F)
      ((outM.access (Rect.unit (s := S2x11x128x2048) (k0_off17 k) S1x1x128x2048.size (k0_off17_inb k))).write (Elt F)
      ((outM.access (Rect.unit (s := S2x11x128x2048) (k0_off16 k) S1x1x128x2048.size (k0_off16_inb k))).write (Elt F)
      ((outM.access (Rect.unit (s := S2x11x128x2048) (k0_off15 k) S1x1x128x2048.size (k0_off15_inb k))).write (Elt F)
      ((outM.access (Rect.unit (s := S2x11x128x2048) (k0_off14 k) S1x1x128x2048.size (k0_off14_inb k))).write (Elt F)
      ((outM.access (Rect.unit (s := S2x11x128x2048) (k0_off13 k) S1x1x128x2048.size (k0_off13_inb k))).write (Elt F)
      ((outM.access (Rect.unit (s := S2x11x128x2048) (k0_off12 k) S1x1x128x2048.size (k0_off12_inb k))).write (Elt F)
      ((outM.access (Rect.unit (s := S2x11x128x2048) (k0_off11 k) S1x1x128x2048.size (k0_off11_inb k))).write (Elt F)
      ((outM.access (Rect.unit (s := S2x11x128x2048) (k0_off10 k) S1x1x128x2048.size (k0_off10_inb k))).write (Elt F)
        g (p 0) Finset.univ) (p 1) Finset.univ) (p 2) Finset.univ) (p 3) Finset.univ) (p 4) Finset.univ) (p 5) Finset.univ) (p 6) Finset.univ) (p 7) Finset.univ) (p 8) Finset.univ) (p 9) Finset.univ) (p 10) Finset.univ)
      (ix4 (Ring.sl 2 k.val) d r x) = p d (ix4 (0 : Fin 1) (0 : Fin 1) r x) := by
  have h0 := read_stored (F := F) (off10_eq k) 0 (hb := k0_off10_inb k) (p := p 0) (d := d) (r := r) (x := x) (z := outM.view.read (Elt F) g (ix4 (Ring.sl 2 k.val) d r x)) (f := g) rfl
  have h1 := read_stored (F := F) (off11_eq k) 1 (hb := k0_off11_inb k) (p := p 1) (d := d) (r := r) (x := x) h0
  have h2 := read_stored (F := F) (off12_eq k) 2 (hb := k0_off12_inb k) (p := p 2) (d := d) (r := r) (x := x) h1
  have h3 := read_stored (F := F) (off13_eq k) 3 (hb := k0_off13_inb k) (p := p 3) (d := d) (r := r) (x := x) h2
  have h4 := read_stored (F := F) (off14_eq k) 4 (hb := k0_off14_inb k) (p := p 4) (d := d) (r := r) (x := x) h3
  have h5 := read_stored (F := F) (off15_eq k) 5 (hb := k0_off15_inb k) (p := p 5) (d := d) (r := r) (x := x) h4
  have h6 := read_stored (F := F) (off16_eq k) 6 (hb := k0_off16_inb k) (p := p 6) (d := d) (r := r) (x := x) h5
  have h7 := read_stored (F := F) (off17_eq k) 7 (hb := k0_off17_inb k) (p := p 7) (d := d) (r := r) (x := x) h6
  have h8 := read_stored (F := F) (off18_eq k) 8 (hb := k0_off18_inb k) (p := p 8) (d := d) (r := r) (x := x) h7
  have h9 := read_stored (F := F) (off19_eq k) 9 (hb := k0_off19_inb k) (p := p 9) (d := d) (r := r) (x := x) h8
  have h10 := read_stored (F := F) (off20_eq k) 10 (hb := k0_off20_inb k) (p := p 10) (d := d) (r := r) (x := x) h9
  refine h10.trans ?_
  clear h0 h1 h2 h3 h4 h5 h6 h7 h8 h9 h10
  fin_cases d <;> rfl

/-! ## What a trip loads -/

/-- The block a trip loads out of its slot is the target's rows. -/
theorem load_cur (s : Fin 4) (b : Fin 16) (f : Buf (Elt F) ((inSlot s).view.loc (c : Thread nD τ))) {off : Fin 3 → ℕ} (e : off = inSlotOff s)
    (hb : ∀ a, off a + S1x128x2048.size a ≤ S4x128x2048.size a) :
    inM.view.readAt (Elt F) (Rect.unit (s := S4x128x2048) off S1x128x2048.size hb).toLoadRect (landed c XT s b f) = rowsAt c XT b := by
  subst e
  funext i
  have hi : (i 0).val = 0 := by have := (i 0).isLt; change _ < 1 at this; omega
  refine (read_landed c XT s b f _ (Fin.ext (by show s.val + 1 * (i 0).val = s.val; omega))).trans ?_
  unfold rowsAt
  refine congrArg (words c XT) (funext fun a => Fin.ext ?_)
  match a with
  | ⟨0, _⟩ => show 128 * b.val + (0 + 1 * (i 1).val) = 128 * b.val + (i 1).val; omega
  | ⟨1, _⟩ => show 0 + 1 * (i 2).val = (i 2).val; omega

/-- A row it loads out of a slot, row `o` of the slot, is the target's. -/
theorem load_row (s : Fin 4) (b : Fin 16) (f : Buf (Elt F) ((inSlot s).view.loc (c : Thread nD τ))) (o : ℕ) (ho : o < 128) {off : Fin 3 → ℕ}
    (e : off = ![s.val, o, 0]) (hb : ∀ a, off a + S1x1x2048.size a ≤ S4x128x2048.size a) :
    inM.view.readAt (Elt F) (Rect.unit (s := S4x128x2048) off S1x1x2048.size hb).toLoadRect (landed c XT s b f)
      = rowAt c XT ⟨128 * b.val + o, by have := b.isLt; omega⟩ := by
  subst e
  funext i
  have hi : (i 0).val = 0 := by have := (i 0).isLt; change _ < 1 at this; omega
  have hi1 : (i 1).val = 0 := by have := (i 1).isLt; change _ < 1 at this; omega
  refine (read_landed c XT s b f _ (Fin.ext (by show s.val + 1 * (i 0).val = s.val; omega))).trans ?_
  unfold rowAt
  refine congrArg (words c XT) (funext fun a => Fin.ext ?_)
  match a with
  | ⟨0, _⟩ => show 128 * b.val + (o + 1 * (i 1).val) = 128 * b.val + o; omega
  | ⟨1, _⟩ => show 0 + 1 * (i 2).val = (i 2).val; omega

/-- The test for the first trip, and for the last. -/
theorem first_iff : ∀ k : Trip, Scalar.cmpi .eq (Scf.iv 0#32 1#32 k) 0#32 = if k.val = 0 then 1#1 else 0#1 := by decide
theorem last_iff : ∀ k : Trip, Scalar.cmpi .eq (Scf.iv 0#32 1#32 k) 15#32 = if k.val = 15 then 1#1 else 0#1 := by decide

/-- The row above that trip `k` uses: past the first trip the row loaded, at the first its block's own. -/
theorem up_eq (k : Trip) (v : Vec F S1x1x2048 .i32) (h : ∀ h : 0 < k.val, v = rowAt c XT ⟨128 * k.val - 1, by have := trip_lt k; omega⟩) :
    k0_pay2 0#32 1#32 k (rowsAt c XT (Ring.bk 16 k.val)) v = upOf c XT (Ring.bk 16 k.val) := by
  have hbk := Ring.bk_val (trip_lt k)
  unfold k0_pay2
  dsimp only
  rw [first_iff]
  by_cases hk : k.val = 0
  · rw [if_pos hk, Scalar.select, if_pos (by decide)]
    funext i
    have hi : (i 0).val = 0 := by have := (i 0).isLt; change _ < 1 at this; omega
    refine (extractStridedSlice_apply _ _ _ i (ix2 (0 : Fin 128) (i 1)) ?_).trans ?_
    · intro a
      match a with
      | ⟨0, _⟩ => show 0 = 0 + (i 0).val; omega
      | ⟨1, _⟩ => show (i 1).val = 0 + (i 1).val; omega
    · unfold k0_pay1
      refine (shapeCast_dropUnit_apply _ _ _ _).trans ?_
      unfold rowsAt upOf
      refine congrArg (words c XT) (funext fun a => Fin.ext ?_)
      match a with
      | ⟨0, _⟩ => show 128 * (Ring.bk 16 k.val).val + 0 = 128 * (Ring.bk 16 k.val).val - 1; rw [hbk]; omega
      | ⟨1, _⟩ => rfl
  · rw [if_neg hk, Scalar.select, if_neg (by decide), h (Nat.pos_of_ne_zero hk)]
    funext i
    have hi : (i 0).val = 0 := by have := (i 0).isLt; change _ < 1 at this; omega
    refine (shapeCast_dropUnit_apply _ _ _ i).trans ?_
    unfold rowAt upOf
    refine congrArg (words c XT) (funext fun a => Fin.ext ?_)
    match a with
    | ⟨0, _⟩ => show 128 * k.val - 1 = 128 * (Ring.bk 16 k.val).val - 1; rw [hbk]
    | ⟨1, _⟩ => rfl

/-- The row below that trip `k` uses: before the last trip the row loaded, at the last its block's own. -/
theorem dn_eq (k : Trip) (v : Vec F S1x1x2048 .i32) (h : ∀ h : k.val < 15, v = rowAt c XT ⟨128 * k.val + 128, by omega⟩) :
    k0_pay3 0#32 1#32 k (rowsAt c XT (Ring.bk 16 k.val)) v = dnOf c XT (Ring.bk 16 k.val) := by
  have hbk := Ring.bk_val (trip_lt k)
  have hlt := trip_lt k
  unfold k0_pay3
  dsimp only
  rw [last_iff]
  by_cases hk : k.val = 15
  · rw [if_pos hk, Scalar.select, if_pos (by decide)]
    funext i
    have hi : (i 0).val = 0 := by have := (i 0).isLt; change _ < 1 at this; omega
    refine (extractStridedSlice_apply _ _ _ i (ix2 (127 : Fin 128) (i 1)) ?_).trans ?_
    · intro a
      match a with
      | ⟨0, _⟩ => show 127 = 127 + (i 0).val; omega
      | ⟨1, _⟩ => show (i 1).val = 0 + (i 1).val; omega
    · unfold k0_pay1
      refine (shapeCast_dropUnit_apply _ _ _ _).trans ?_
      unfold rowsAt dnOf
      refine congrArg (words c XT) (funext fun a => Fin.ext ?_)
      match a with
      | ⟨0, _⟩ => show 128 * (Ring.bk 16 k.val).val + 127 = min (128 * (Ring.bk 16 k.val).val + 128) 2047; rw [hbk]; omega
      | ⟨1, _⟩ => rfl
  · rw [if_neg hk, Scalar.select, if_neg (by decide), h (by omega)]
    funext i
    have hi : (i 0).val = 0 := by have := (i 0).isLt; change _ < 1 at this; omega
    refine (shapeCast_dropUnit_apply _ _ _ i).trans ?_
    unfold rowAt dnOf
    refine congrArg (words c XT) (funext fun a => Fin.ext ?_)
    match a with
    | ⟨0, _⟩ => show 128 * k.val + 128 = min (128 * (Ring.bk 16 k.val).val + 128) 2047; rw [hbk]; omega
    | ⟨1, _⟩ => rfl

/-- What trip `k` sends out of its slot, from what it loaded: the classes' rows of block `k`. -/
theorem sent_words (w wt s : Elt F .f32) (k : Trip) (v43 : Vec F S1x128x2048 .i32) (v48 v54 : Vec F S1x1x2048 .i32)
    (hc : v43 = rowsAt c XT (Ring.bk 16 k.val))
    (hu : ∀ h : 0 < k.val, v48 = rowAt c XT ⟨128 * k.val - 1, by have := trip_lt k; omega⟩)
    (hd : ∀ h : k.val < 15, v54 = rowAt c XT ⟨128 * k.val + 128, by omega⟩) (g : outM.view.ty.Contents (Elt F)) :
    ReadAs.same.apply ((outSlot (Ring.sl 2 k.val)).view.read (Elt F)
      ((outM.access (Rect.unit (s := S2x11x128x2048) (k0_off20 k) S1x1x128x2048.size (k0_off20_inb k))).write (Elt F)
      ((outM.access (Rect.unit (s := S2x11x128x2048) (k0_off19 k) S1x1x128x2048.size (k0_off19_inb k))).write (Elt F)
      ((outM.access (Rect.unit (s := S2x11x128x2048) (k0_off18 k) S1x1x128x2048.size (k0_off18_inb k))).write (Elt F)
      ((outM.access (Rect.unit (s := S2x11x128x2048) (k0_off17 k) S1x1x128x2048.size (k0_off17_inb k))).write (Elt F)
      ((outM.access (Rect.unit (s := S2x11x128x2048) (k0_off16 k) S1x1x128x2048.size (k0_off16_inb k))).write (Elt F)
      ((outM.access (Rect.unit (s := S2x11x128x2048) (k0_off15 k) S1x1x128x2048.size (k0_off15_inb k))).write (Elt F)
      ((outM.access (Rect.unit (s := S2x11x128x2048) (k0_off14 k) S1x1x128x2048.size (k0_off14_inb k))).write (Elt F)
      ((outM.access (Rect.unit (s := S2x11x128x2048) (k0_off13 k) S1x1x128x2048.size (k0_off13_inb k))).write (Elt F)
      ((outM.access (Rect.unit (s := S2x11x128x2048) (k0_off12 k) S1x1x128x2048.size (k0_off12_inb k))).write (Elt F)
      ((outM.access (Rect.unit (s := S2x11x128x2048) (k0_off11 k) S1x1x128x2048.size (k0_off11_inb k))).write (Elt F)
      ((outM.access (Rect.unit (s := S2x11x128x2048) (k0_off10 k) S1x1x128x2048.size (k0_off10_inb k))).write (Elt F)
        g (classRows w wt s v43 (k0_pay2 0#32 1#32 k v43 v48) (k0_pay3 0#32 1#32 k v43 v54) 0) Finset.univ) (classRows w wt s v43 (k0_pay2 0#32 1#32 k v43 v48) (k0_pay3 0#32 1#32 k v43 v54) 1) Finset.univ) (classRows w wt s v43 (k0_pay2 0#32 1#32 k v43 v48) (k0_pay3 0#32 1#32 k v43 v54) 2) Finset.univ) (classRows w wt s v43 (k0_pay2 0#32 1#32 k v43 v48) (k0_pay3 0#32 1#32 k v43 v54) 3) Finset.univ) (classRows w wt s v43 (k0_pay2 0#32 1#32 k v43 v48) (k0_pay3 0#32 1#32 k v43 v54) 4) Finset.univ) (classRows w wt s v43 (k0_pay2 0#32 1#32 k v43 v48) (k0_pay3 0#32 1#32 k v43 v54) 5) Finset.univ) (classRows w wt s v43 (k0_pay2 0#32 1#32 k v43 v48) (k0_pay3 0#32 1#32 k v43 v54) 6) Finset.univ) (classRows w wt s v43 (k0_pay2 0#32 1#32 k v43 v48) (k0_pay3 0#32 1#32 k v43 v54) 7) Finset.univ) (classRows w wt s v43 (k0_pay2 0#32 1#32 k v43 v48) (k0_pay3 0#32 1#32 k v43 v54) 8) Finset.univ) (classRows w wt s v43 (k0_pay2 0#32 1#32 k v43 v48) (k0_pay3 0#32 1#32 k v43 v54) 9) Finset.univ) (classRows w wt s v43 (k0_pay2 0#32 1#32 k v43 v48) (k0_pay3 0#32 1#32 k v43 v54) 10) Finset.univ))
      = outWords c XT w wt s (Ring.bk 16 k.val) := by
  subst hc
  rw [up_eq c XT k v48 hu, dn_eq c XT k v54 hd]
  funext i
  exact (read_outSlot c (Ring.sl 2 k.val) _ i).trans (stored_all (classRows w wt s (rowsAt c XT (Ring.bk 16 k.val)) (upOf c XT (Ring.bk 16 k.val)) (dnOf c XT (Ring.bk 16 k.val))) k g (i 0) (i 1) (i 2))

end Rows

end Cert.Proof.Stencil

end
-- ==== Proof.Trip.lean ====
/-
  One trip of the loop at a symbolic number `k`, in its five kinds: the first, the second, the middle ones, the last
  but one and the last. Each theorem says which blocks, slots and transfers the trip starts from and which it leaves.

  Trip `k` has block `k` in its slot and block `k - 1` in the slot before, waits for block `k + 1`, starts block `k + 2`
  into the slot that block `k - 2` left, waits for output block `k - 2` and sends output block `k`.
-/
module

public import proofs.«01_k».proof.Proof.Block

@[expose] public section

noncomputable section

namespace Cert.Proof.Stencil

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip
variable (c : Dev nD) (XT : Buf (Elt F) (tgtM.view.loc (c : Thread nD τ))) (XO : Buf (Elt F) (resM.view.loc (c : Thread nD τ)))
  (arg0 : Memref sig .tc .smem S11 .i32) (harg0 : arg0.IsWhole) (arg1 : Memref sig .tc .smem S3 .f32) (harg1 : arg1.IsWhole)
  (w wt s : Elt F .f32)

/-- One trip of the loop, at `k`. -/
abbrev tripProg (k : Trip) : Prog (TpuEff nD τ sig (Elt F) Λ₀ .tc) Unit :=
  k0_t1_body (F := F) arg0 harg0 arg1 harg1 tgtM (Memref.isWhole_whole _) resM (Memref.isWhole_whole _) inM (Memref.isWhole_whole _) outM (Memref.isWhole_whole _) cc0_scratch2 cc0_scratch3 w wt s k ()

/-- The core owing whatever it owes. -/
abbrev owing : sProp 𝕄 := iprop(∃ W, owes (c : Thread nD τ) 0 W)
/-- Output slot `s`'s flight carrying block `b`'s classes' rows. -/
abbrev sending (o : Fin 2) (b : Fin 16) : sProp 𝕄 := iprop(∃ g, outFlight c XO o b (outWords c XT w wt s b) g)
/-- Output block `b` at its classes' rows. -/
abbrev resDone (b : Fin 16) : sProp 𝕄 := resHas c b (written c XO b (outWords c XT w wt s b))
/-- Block `b` on its way into slot `s`. -/
abbrev coming (o : Fin 4) (b : Fin 16) : sProp 𝕄 := iprop(∃ f, inFlight c XT o b f)
/-- A slot holding a block, its semaphore at zero. -/
abbrev keeps (o : Fin 4) (b : Fin 16) : sProp 𝕄 := iprop(holds c XT o b ∗ inCell c o)

/-- Past the first trip the test for it fails. -/
theorem k_ne_zero {k : Trip} (h : k.val ≠ 0) : ¬ (Scalar.cmpi .ne (Scalar.extui (Scalar.cmpi .eq (Scf.iv 0#32 1#32 k) 0#32) : BitVec 32) 0#32 = 1#1) := fun e => h ((cond1_iff k).mp e)

omit [FloatOps F] in
/-- A row by its number. -/
theorem rowAt_congr {r r' : Fin 2048} (h : r.val = r'.val) : rowAt c XT r = rowAt c XT r' := congrArg _ (Fin.ext h)

/-- The first trip: it waits for its own block too, and the slot before its own is free. -/
theorem tripFirst (k : Trip) (h0 : k.val = 0) :
    iprop(owing c ∗ coming c XT (Ring.sl 4 k.val) (Ring.bk 16 k.val) ∗ inFree c (Ring.sl 4 (k.val + 3))
      ∗ coming c XT (Ring.sl 4 (k.val + 1)) (Ring.bk 16 (k.val + 1)) ∗ inFree c (Ring.sl 4 (k.val + 2)) ∗ inHome c XT (Ring.bk 16 (k.val + 2))
      ∗ outFree c (Ring.sl 2 k.val) ∗ resHas c (Ring.bk 16 k.val) XO)
    ⊢ wp frame (wpE (defs₀ (F := F)) 𝒱₀ (c : Thread nD τ) none) Set.univ (tripProg arg0 harg0 arg1 harg1 w wt s k)
        (fun _ => iprop(owing c ∗ keeps c XT (Ring.sl 4 k.val) (Ring.bk 16 k.val) ∗ inFree c (Ring.sl 4 (k.val + 3))
          ∗ keeps c XT (Ring.sl 4 (k.val + 1)) (Ring.bk 16 (k.val + 1)) ∗ coming c XT (Ring.sl 4 (k.val + 2)) (Ring.bk 16 (k.val + 2))
          ∗ inHome c XT (Ring.bk 16 k.val) ∗ inHome c XT (Ring.bk 16 (k.val + 1))
          ∗ sending c XT XO w wt s (Ring.sl 2 k.val) (Ring.bk 16 k.val))) := by
  have e1 := (cond1_iff k).mpr h0
  have e2 : k0_cond2 k = 1#1 := (cond2_iff k).mpr (by omega)
  have e3 : ¬ k0_cond3 k = 1#1 := fun e => by have := (cond3_iff k).mp e; omega
  have e4 : k0_cond4 k = 1#1 := (cond4_iff k).mpr (by omega)
  have hk1 : k.val + 1 < 16 := by omega
  iintro ⟨⟨%W, HW⟩, ⟨%fc, Hcur⟩, ⟨⟨%fp, Hp⟩, Hpc⟩, ⟨%fn, Hn⟩, ⟨⟨%ff, Hf⟩, Hfc⟩, Hhome, ⟨⟨%g2, Ho⟩, Hoc⟩, Hres⟩
  have hs0 : (0 : Fin 4) = Ring.sl 4 k.val := by rw [h0]; rfl
  have hb0 : (0 : Fin 16) = Ring.bk 16 k.val := by rw [h0]; rfl
  ihave H0 : inFlight c XT 0 0 (hs0 ▸ fc) $$ [Hcur]
  · rw [← hb0]; generalize Ring.sl 4 k.val = o at hs0 fc; subst hs0; iexact Hcur
  dsimp only [tripProg]
  sl_unfold [k0_t1_body]
  sl_exec
  ihave Hcur : iprop(keeps c XT (Ring.sl 4 k.val) (Ring.bk 16 k.val) ∗ inHome c XT (Ring.bk 16 k.val)) $$ [H0 H0_dst H0_src]
  · rw [← hs0, ← hb0]
    isplitl [H0 H0_dst]
    · isplitl [H0_dst]; · iexact H0_dst
      iexact H0
    iexact H0_src
  icases Hcur with ⟨⟨Hcur_dst, Hcur⟩, Hcur_src⟩
  sl_exec
  have hv : tripFirst.sl.dma25_1 c XT w wt s k fp g2 = outWords c XT w wt s (Ring.bk 16 k.val) := by
    refine sent_words c XT w wt s k (tripFirst.sl.v43 c XT k) _ _ ((load_cur c XT 0 0 _ ((off7_eq k).trans (by rw [← hs0])) _).trans (by rw [hb0])) ?_ ?_ g2
    · exact fun h' => absurd h' (by omega)
    · exact fun _ => (load_row c XT _ _ _ 0 (by decide) (off9_eq k) _).trans (rowAt_congr c XT (by show 128 * (Ring.bk 16 (k.val + 1)).val + 0 = 128 * k.val + 128; rw [Ring.bk_val (by omega)]; omega))
  rw [hv]
  sl_step
  isplitl [HW]; · iexists _; iexact HW
  isplitl [Hcur_dst Hcur]
  · isplitl [Hcur_dst]; · iexact Hcur_dst
    iexact Hcur
  isplitl [Hp Hpc]
  · isplitl [Hp]; · iexists _; iexact Hp
    iexact Hpc
  isplitl [Hn_dst Hn]
  · isplitl [Hn_dst]; · iexact Hn_dst
    iexact Hn
  isplitl [Hfc]; · iexists ff; iexact Hfc
  isplitl [Hcur_src]; · iexact Hcur_src
  isplitl [Hn_src]; · iexact Hn_src
  iexists _; iexact Hoc

/-- The second trip: no output block is on its way out of its slot yet. -/
theorem tripSecond (k : Trip) (h1 : k.val = 1) :
    iprop(owing c ∗ keeps c XT (Ring.sl 4 k.val) (Ring.bk 16 k.val) ∗ keeps c XT (Ring.sl 4 (k.val + 3)) (Ring.bk 16 (k.val - 1))
      ∗ coming c XT (Ring.sl 4 (k.val + 1)) (Ring.bk 16 (k.val + 1)) ∗ inFree c (Ring.sl 4 (k.val + 2)) ∗ inHome c XT (Ring.bk 16 (k.val + 2))
      ∗ outFree c (Ring.sl 2 k.val) ∗ resHas c (Ring.bk 16 k.val) XO)
    ⊢ wp frame (wpE (defs₀ (F := F)) 𝒱₀ (c : Thread nD τ) none) Set.univ (tripProg arg0 harg0 arg1 harg1 w wt s k)
        (fun _ => iprop(owing c ∗ keeps c XT (Ring.sl 4 k.val) (Ring.bk 16 k.val) ∗ inFree c (Ring.sl 4 (k.val + 3))
          ∗ keeps c XT (Ring.sl 4 (k.val + 1)) (Ring.bk 16 (k.val + 1)) ∗ coming c XT (Ring.sl 4 (k.val + 2)) (Ring.bk 16 (k.val + 2))
          ∗ inHome c XT (Ring.bk 16 (k.val + 1))
          ∗ sending c XT XO w wt s (Ring.sl 2 k.val) (Ring.bk 16 k.val))) := by
  have e1 := k_ne_zero (k := k) (by omega)
  have e2 : k0_cond2 k = 1#1 := (cond2_iff k).mpr (by omega)
  have e3 : ¬ k0_cond3 k = 1#1 := fun e => by have := (cond3_iff k).mp e; omega
  have e4 : k0_cond4 k = 1#1 := (cond4_iff k).mpr (by omega)
  have hk1 : k.val + 1 < 16 := by omega
  iintro ⟨⟨%W, HW⟩, ⟨Hcur, Hcc⟩, ⟨Hp, Hpc⟩, ⟨%fn, Hn⟩, ⟨⟨%ff, Hf⟩, Hfc⟩, Hhome, ⟨⟨%g2, Ho⟩, Hoc⟩, Hres⟩
  dsimp only [tripProg]
  sl_unfold [k0_t1_body]
  sl_exec
  have hv : tripSecond.sl.dma25_1 c XT w wt s k g2 = outWords c XT w wt s (Ring.bk 16 k.val) := by
    refine sent_words c XT w wt s k (tripSecond.sl.v43 c XT k) _ _ (load_cur c XT _ _ _ (off7_eq k) _) ?_ ?_ g2
    · exact fun _ => (load_row c XT _ _ _ 127 (by decide) (off8_eq k) _).trans (rowAt_congr c XT (by show 128 * (Ring.bk 16 (k.val - 1)).val + 127 = 128 * k.val - 1; rw [Ring.bk_val (by omega)]; omega))
    · exact fun _ => (load_row c XT _ _ _ 0 (by decide) (off9_eq k) _).trans (rowAt_congr c XT (by show 128 * (Ring.bk 16 (k.val + 1)).val + 0 = 128 * k.val + 128; rw [Ring.bk_val (by omega)]; omega))
  rw [hv]
  sl_step
  isplitl [HW]; · iexists _; iexact HW
  isplitl [Hcur Hcc]
  · isplitl [Hcur]; · iexact Hcur
    iexact Hcc
  isplitl [Hp Hpc]
  · isplitl [Hp]; · iexists _; iexact Hp
    iexact Hpc
  isplitl [Hn_dst Hn]
  · isplitl [Hn_dst]; · iexact Hn_dst
    iexact Hn
  isplitl [Hfc]; · iexists ff; iexact Hfc
  isplitl [Hn_src]; · iexact Hn_src
  iexists _; iexact Hoc

/-- A trip in the middle. -/
theorem tripMid (k : Trip) (h2 : 2 ≤ k.val) (h14 : k.val + 2 < 16) :
    iprop(owing c ∗ keeps c XT (Ring.sl 4 k.val) (Ring.bk 16 k.val) ∗ keeps c XT (Ring.sl 4 (k.val + 3)) (Ring.bk 16 (k.val - 1))
      ∗ coming c XT (Ring.sl 4 (k.val + 1)) (Ring.bk 16 (k.val + 1)) ∗ inFree c (Ring.sl 4 (k.val + 2)) ∗ inHome c XT (Ring.bk 16 (k.val + 2))
      ∗ sending c XT XO w wt s (Ring.sl 2 k.val) (Ring.bk 16 (k.val - 2)) ∗ resHas c (Ring.bk 16 k.val) XO)
    ⊢ wp frame (wpE (defs₀ (F := F)) 𝒱₀ (c : Thread nD τ) none) Set.univ (tripProg arg0 harg0 arg1 harg1 w wt s k)
        (fun _ => iprop(owing c ∗ keeps c XT (Ring.sl 4 k.val) (Ring.bk 16 k.val) ∗ inFree c (Ring.sl 4 (k.val + 3))
          ∗ keeps c XT (Ring.sl 4 (k.val + 1)) (Ring.bk 16 (k.val + 1)) ∗ coming c XT (Ring.sl 4 (k.val + 2)) (Ring.bk 16 (k.val + 2))
          ∗ inHome c XT (Ring.bk 16 (k.val + 1))
          ∗ resDone c XT XO w wt s (Ring.bk 16 (k.val - 2)) ∗ sending c XT XO w wt s (Ring.sl 2 k.val) (Ring.bk 16 k.val))) := by
  have e1 := k_ne_zero (k := k) (by omega)
  have e2 : k0_cond2 k = 1#1 := (cond2_iff k).mpr (by omega)
  have e3 : k0_cond3 k = 1#1 := (cond3_iff k).mpr (by omega)
  have e4 : k0_cond4 k = 1#1 := (cond4_iff k).mpr (by omega)
  have hk1 : k.val + 1 < 16 := by omega
  iintro ⟨⟨%W, HW⟩, ⟨Hcur, Hcc⟩, ⟨Hp, Hpc⟩, ⟨%fn, Hn⟩, ⟨⟨%ff, Hf⟩, Hfc⟩, Hhome, ⟨%g2, Ho⟩, Hres⟩
  dsimp only [tripProg]
  sl_unfold [k0_t1_body]
  sl_exec
  have hv : tripMid.sl.dma25_1 c XT w wt s k g2 = outWords c XT w wt s (Ring.bk 16 k.val) := by
    refine sent_words c XT w wt s k (tripMid.sl.v43 c XT k) _ _ (load_cur c XT _ _ _ (off7_eq k) _) ?_ ?_ g2
    · exact fun _ => (load_row c XT _ _ _ 127 (by decide) (off8_eq k) _).trans (rowAt_congr c XT (by show 128 * (Ring.bk 16 (k.val - 1)).val + 127 = 128 * k.val - 1; rw [Ring.bk_val (by omega)]; omega))
    · exact fun _ => (load_row c XT _ _ _ 0 (by decide) (off9_eq k) _).trans (rowAt_congr c XT (by show 128 * (Ring.bk 16 (k.val + 1)).val + 0 = 128 * k.val + 128; rw [Ring.bk_val (by omega)]; omega))
  rw [hv]
  sl_step
  isplitl [HW]; · iexists _; iexact HW
  isplitl [Hcur Hcc]
  · isplitl [Hcur]; · iexact Hcur
    iexact Hcc
  isplitl [Hp Hpc]
  · isplitl [Hp]; · iexists _; iexact Hp
    iexact Hpc
  isplitl [Hn_dst Hn]
  · isplitl [Hn_dst]; · iexact Hn_dst
    iexact Hn
  isplitl [Hfc]; · iexists ff; iexact Hfc
  isplitl [Hn_src]; · iexact Hn_src
  isplitl [Ho_dst]; · iexact Ho_dst
  iexists _; iexact Ho

/-- The last trip but one: no input block is left to start. -/
theorem tripLast1 (k : Trip) (h : k.val = 14) :
    iprop(owing c ∗ keeps c XT (Ring.sl 4 k.val) (Ring.bk 16 k.val) ∗ keeps c XT (Ring.sl 4 (k.val + 3)) (Ring.bk 16 (k.val - 1))
      ∗ coming c XT (Ring.sl 4 (k.val + 1)) (Ring.bk 16 (k.val + 1))
      ∗ sending c XT XO w wt s (Ring.sl 2 k.val) (Ring.bk 16 (k.val - 2)) ∗ resHas c (Ring.bk 16 k.val) XO)
    ⊢ wp frame (wpE (defs₀ (F := F)) 𝒱₀ (c : Thread nD τ) none) Set.univ (tripProg arg0 harg0 arg1 harg1 w wt s k)
        (fun _ => iprop(owing c ∗ keeps c XT (Ring.sl 4 k.val) (Ring.bk 16 k.val) ∗ inFree c (Ring.sl 4 (k.val + 3))
          ∗ keeps c XT (Ring.sl 4 (k.val + 1)) (Ring.bk 16 (k.val + 1)) ∗ inHome c XT (Ring.bk 16 (k.val + 1))
          ∗ resDone c XT XO w wt s (Ring.bk 16 (k.val - 2)) ∗ sending c XT XO w wt s (Ring.sl 2 k.val) (Ring.bk 16 k.val))) := by
  have e1 := k_ne_zero (k := k) (by omega)
  have e2 : k0_cond2 k = 1#1 := (cond2_iff k).mpr (by omega)
  have e3 : k0_cond3 k = 1#1 := (cond3_iff k).mpr (by omega)
  have e4 : ¬ k0_cond4 k = 1#1 := fun e => by have := (cond4_iff k).mp e; omega
  have hk1 : k.val + 1 < 16 := by omega
  iintro ⟨⟨%W, HW⟩, ⟨Hcur, Hcc⟩, ⟨Hp, Hpc⟩, ⟨%fn, Hn⟩, ⟨%g2, Ho⟩, Hres⟩
  dsimp only [tripProg]
  sl_unfold [k0_t1_body]
  sl_exec
  have hv : tripLast1.sl.dma25 c XT w wt s k g2 = outWords c XT w wt s (Ring.bk 16 k.val) := by
    refine sent_words c XT w wt s k (tripLast1.sl.v43 c XT k) _ _ (load_cur c XT _ _ _ (off7_eq k) _) ?_ ?_ g2
    · exact fun _ => (load_row c XT _ _ _ 127 (by decide) (off8_eq k) _).trans (rowAt_congr c XT (by show 128 * (Ring.bk 16 (k.val - 1)).val + 127 = 128 * k.val - 1; rw [Ring.bk_val (by omega)]; omega))
    · exact fun _ => (load_row c XT _ _ _ 0 (by decide) (off9_eq k) _).trans (rowAt_congr c XT (by show 128 * (Ring.bk 16 (k.val + 1)).val + 0 = 128 * k.val + 128; rw [Ring.bk_val (by omega)]; omega))
  rw [hv]
  sl_step
  isplitl [HW]; · iexists _; iexact HW
  isplitl [Hcur Hcc]
  · isplitl [Hcur]; · iexact Hcur
    iexact Hcc
  isplitl [Hp Hpc]
  · isplitl [Hp]; · iexists _; iexact Hp
    iexact Hpc
  isplitl [Hn_dst Hn]
  · isplitl [Hn_dst]; · iexact Hn_dst
    iexact Hn
  isplitl [Hn_src]; · iexact Hn_src
  isplitl [Ho_dst]; · iexact Ho_dst
  iexists _; iexact Ho

/-- The last trip: no input block is left to wait for either; the slot it would be in is free. -/
theorem tripLast (k : Trip) (h : k.val = 15) :
    iprop(owing c ∗ keeps c XT (Ring.sl 4 k.val) (Ring.bk 16 k.val) ∗ keeps c XT (Ring.sl 4 (k.val + 3)) (Ring.bk 16 (k.val - 1))
      ∗ inFree c (Ring.sl 4 (k.val + 1))
      ∗ sending c XT XO w wt s (Ring.sl 2 k.val) (Ring.bk 16 (k.val - 2)) ∗ resHas c (Ring.bk 16 k.val) XO)
    ⊢ wp frame (wpE (defs₀ (F := F)) 𝒱₀ (c : Thread nD τ) none) Set.univ (tripProg arg0 harg0 arg1 harg1 w wt s k)
        (fun _ => iprop(owing c ∗ keeps c XT (Ring.sl 4 k.val) (Ring.bk 16 k.val) ∗ inFree c (Ring.sl 4 (k.val + 3))
          ∗ inFree c (Ring.sl 4 (k.val + 1))
          ∗ resDone c XT XO w wt s (Ring.bk 16 (k.val - 2)) ∗ sending c XT XO w wt s (Ring.sl 2 k.val) (Ring.bk 16 k.val))) := by
  have e1 := k_ne_zero (k := k) (by omega)
  have e2 : ¬ k0_cond2 k = 1#1 := fun e => by have := (cond2_iff k).mp e; omega
  have e3 : k0_cond3 k = 1#1 := (cond3_iff k).mpr (by omega)
  have e4 : ¬ k0_cond4 k = 1#1 := fun e => by have := (cond4_iff k).mp e; omega
  iintro ⟨⟨%W, HW⟩, ⟨Hcur, Hcc⟩, ⟨Hp, Hpc⟩, ⟨⟨%fn, Hn⟩, Hnc⟩, ⟨%g2, Ho⟩, Hres⟩
  dsimp only [tripProg]
  sl_unfold [k0_t1_body]
  sl_exec
  have hv : tripLast.sl.dma25 c XT w wt s k fn g2 = outWords c XT w wt s (Ring.bk 16 k.val) := by
    refine sent_words c XT w wt s k (tripLast.sl.v43 c XT k) _ _ (load_cur c XT _ _ _ (off7_eq k) _) ?_ ?_ g2
    · exact fun _ => (load_row c XT _ _ _ 127 (by decide) (off8_eq k) _).trans (rowAt_congr c XT (by show 128 * (Ring.bk 16 (k.val - 1)).val + 127 = 128 * k.val - 1; rw [Ring.bk_val (by omega)]; omega))
    · exact fun h' => absurd h' (by omega)
  rw [hv]
  sl_step
  isplitl [HW]; · iexists _; iexact HW
  isplitl [Hcur Hcc]
  · isplitl [Hcur]; · iexact Hcur
    iexact Hcc
  isplitl [Hp Hpc]
  · isplitl [Hp]; · iexists _; iexact Hp
    iexact Hpc
  isplitl [Hn Hnc]
  · isplitl [Hn]; · iexists _; iexact Hn
    iexact Hnc
  isplitl [Ho_dst]; · iexact Ho_dst
  iexists _; iexact Ho

end Trip

end Cert.Proof.Stencil

end
-- ==== Proof.Loop.lean ====
/-
  The loop's invariant: what the core holds before trip `k`, for `k` from 0 to 16, and that a trip takes it on by one.
-/
module

public import proofs.«01_k».proof.Proof.Trip

@[expose] public section

noncomputable section

namespace Cert.Proof.Stencil

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Runs

omit [FloatOps F] in
/-- One more block below. -/
theorem below_succ (Φ : Fin 16 → sProp 𝕄) (n : ℕ) (h : n < 16) :
    bigSep (Ring.rangeSet 16 0 (n + 1)) Φ = iprop(Φ (Ring.bk 16 n) ∗ bigSep (Ring.rangeSet 16 0 n) Φ) := by
  rw [Ring.bigSep_rangeSet_last (by omega) (by omega), show Ring.bk 16 n = ⟨n, h⟩ from Fin.ext (Ring.bk_val h)]
  rfl
omit [FloatOps F] in
/-- The first block from `n` on apart. -/
theorem from_head (Φ : Fin 16 → sProp 𝕄) (n : ℕ) (h : n < 16) :
    bigSep (Ring.rangeSet 16 n 16) Φ = iprop(Φ (Ring.bk 16 n) ∗ bigSep (Ring.rangeSet 16 (n + 1) 16) Φ) := by
  rw [Ring.bigSep_rangeSet_head h h, show Ring.bk 16 n = ⟨n, h⟩ from Fin.ext (Ring.bk_val h)]
omit [FloatOps F] in
/-- No block from 16 on. -/
theorem from_end (Φ : Fin 16 → sProp 𝕄) (n m : ℕ) (h : 16 ≤ n) (h' : 16 ≤ m) :
    bigSep (Ring.rangeSet 16 n 16) Φ = bigSep (Ring.rangeSet 16 m 16) Φ := by
  rw [Ring.rangeSet_empty h, Ring.rangeSet_empty h']

end Runs

section Inv
variable (c : Dev nD) (XT : Buf (Elt F) (tgtM.view.loc (c : Thread nD τ))) (XO : Buf (Elt F) (resM.view.loc (c : Thread nD τ)))
  (arg0 : Memref sig .tc .smem S11 .i32) (harg0 : arg0.IsWhole) (arg1 : Memref sig .tc .smem S3 .f32) (harg1 : arg1.IsWhole)
  (w wt s : Elt F .f32)

/-- The four input slots before trip `k`. -/
def slots (k : ℕ) : sProp 𝕄 :=
  if k = 0 then iprop(coming c XT 0 0 ∗ coming c XT 1 1 ∗ inFree c 2 ∗ inFree c 3)
  else if k < 15 then iprop(keeps c XT (Ring.sl 4 k) (Ring.bk 16 k) ∗ keeps c XT (Ring.sl 4 (k + 3)) (Ring.bk 16 (k - 1))
    ∗ coming c XT (Ring.sl 4 (k + 1)) (Ring.bk 16 (k + 1)) ∗ inFree c (Ring.sl 4 (k + 2)))
  else if k = 15 then iprop(keeps c XT (Ring.sl 4 k) (Ring.bk 16 k) ∗ keeps c XT (Ring.sl 4 (k + 3)) (Ring.bk 16 (k - 1))
    ∗ inFree c (Ring.sl 4 (k + 1)) ∗ inFree c (Ring.sl 4 (k + 2)))
  else iprop(inFree c 0 ∗ inFree c 1 ∗ inFree c 2 ∗ inFree c 3)

theorem slots_zero : slots c XT 0 = iprop(coming c XT 0 0 ∗ coming c XT 1 1 ∗ inFree c 2 ∗ inFree c 3) := if_pos rfl
theorem slots_mid (k : ℕ) (h : 1 ≤ k) (h' : k < 15) : slots c XT k = iprop(keeps c XT (Ring.sl 4 k) (Ring.bk 16 k) ∗ keeps c XT (Ring.sl 4 (k + 3)) (Ring.bk 16 (k - 1))
    ∗ coming c XT (Ring.sl 4 (k + 1)) (Ring.bk 16 (k + 1)) ∗ inFree c (Ring.sl 4 (k + 2))) := by
  rw [slots, if_neg (by omega), if_pos h']
theorem slots_last (k : ℕ) (h : k = 15) : slots c XT k = iprop(keeps c XT (Ring.sl 4 k) (Ring.bk 16 k) ∗ keeps c XT (Ring.sl 4 (k + 3)) (Ring.bk 16 (k - 1))
    ∗ inFree c (Ring.sl 4 (k + 1)) ∗ inFree c (Ring.sl 4 (k + 2))) := by
  rw [slots, if_neg (by omega), if_neg (by omega), if_pos h]
theorem slots_end (k : ℕ) (h : 16 ≤ k) : slots c XT k = iprop(inFree c 0 ∗ inFree c 1 ∗ inFree c 2 ∗ inFree c 3) := by
  rw [slots, if_neg (by omega), if_neg (by omega), if_neg (by omega)]

/-- How many of the first input blocks are back home before trip `k`. -/
def back (k : ℕ) : ℕ := if k = 0 then 0 else if k < 15 then k + 1 else 16
theorem back_mid {k : ℕ} (h : 1 ≤ k) (h' : k < 15) : back k = k + 1 := by unfold back; split_ifs <;> omega
theorem back_last {k : ℕ} (h : 15 ≤ k) : back k = 16 := by unfold back; split_ifs <;> omega

/-- The input blocks at home before trip `k`. -/
def homes (k : ℕ) : sProp 𝕄 := iprop(bigSep (Ring.rangeSet 16 0 (back k)) (inHome c XT) ∗ bigSep (Ring.rangeSet 16 (k + 2) 16) (inHome c XT))

/-- The two output slots before trip `k`. -/
def sends (k : ℕ) : sProp 𝕄 :=
  if k = 0 then iprop(outFree c 0 ∗ outFree c 1)
  else if k = 1 then iprop(outFree c (Ring.sl 2 k) ∗ sending c XT XO w wt s (Ring.sl 2 (k + 1)) (Ring.bk 16 (k - 1)))
  else iprop(sending c XT XO w wt s (Ring.sl 2 k) (Ring.bk 16 (k - 2)) ∗ sending c XT XO w wt s (Ring.sl 2 (k + 1)) (Ring.bk 16 (k - 1)))

theorem sends_zero : sends c XT XO w wt s 0 = iprop(outFree c 0 ∗ outFree c 1) := if_pos rfl
theorem sends_one (k : ℕ) (h : k = 1) : sends c XT XO w wt s k
    = iprop(outFree c (Ring.sl 2 k) ∗ sending c XT XO w wt s (Ring.sl 2 (k + 1)) (Ring.bk 16 (k - 1))) := by
  rw [sends, if_neg (by omega), if_pos h]
theorem sends_mid (k : ℕ) (h : 2 ≤ k) : sends c XT XO w wt s k
    = iprop(sending c XT XO w wt s (Ring.sl 2 k) (Ring.bk 16 (k - 2)) ∗ sending c XT XO w wt s (Ring.sl 2 (k + 1)) (Ring.bk 16 (k - 1))) := by
  rw [sends, if_neg (by omega), if_neg (by omega)]

/-- The output blocks at rest before trip `k`: the ones written, and the ones not begun. -/
def blocks (k : ℕ) : sProp 𝕄 :=
  iprop(bigSep (Ring.rangeSet 16 0 (k - 2)) (resDone c XT XO w wt s) ∗ bigSep (Ring.rangeSet 16 k 16) (fun b => resHas c b XO))

/-- What the core holds before trip `k`. -/
def stAt (k : ℕ) : sProp 𝕄 :=
  iprop(owing c ∗ slots c XT k ∗ homes c XT k ∗ sends c XT XO w wt s k ∗ blocks c XT XO w wt s k)

omit [FloatOps F] in
/-- Two trips on, an output slot is the same. -/
theorem sl2_add2 (k : ℕ) : Ring.sl 2 (k + 1 + 1) = Ring.sl 2 k := Ring.sl_add 2 k
/-- The slot before the next trip's is this trip's. -/
theorem sl4_prev (k : ℕ) : Ring.sl 4 (k + 1 + 3) = Ring.sl 4 k := Ring.sl_add 4 k
/-- Four slots on is the same slot. -/
theorem sl4_next (k : ℕ) : Ring.sl 4 (k + 1 + 2) = Ring.sl 4 (k + 3) := rfl

/-- A middle trip takes the invariant on. -/
theorem stepMid (k : Trip) (h2 : 2 ≤ k.val) (h14 : k.val + 2 < 16) :
    stAt c XT XO w wt s k.val ⊢ wp frame (wpE (defs₀ (F := F)) 𝒱₀ (c : Thread nD τ) none) Set.univ (tripProg arg0 harg0 arg1 harg1 w wt s k)
      (fun _ => stAt c XT XO w wt s (k.val + 1)) := by
  unfold stAt homes blocks
  rw [slots_mid c XT k.val (by omega) (by omega), slots_mid c XT (k.val + 1) (by omega) (by omega), back_mid (by omega) (by omega), back_mid (by omega) (by omega),
    sends_mid _ _ _ _ _ _ _ h2, sends_mid _ _ _ _ _ _ (k.val + 1) (by omega), below_succ (inHome c XT) (k.val + 1) (by omega), from_head (inHome c XT) (k.val + 2) h14,
    from_head (fun b => resHas c b XO) k.val (by omega), show k.val + 1 - 2 = k.val - 2 + 1 by omega, below_succ (resDone c XT XO w wt s) (k.val - 2) (by omega),
    sl2_add2, sl4_prev, show k.val + 1 - 1 = k.val by omega, show k.val - 2 + 1 = k.val - 1 by omega]
  iintro ⟨HW, ⟨Hcur, Hp, Hn, Hf⟩, ⟨HA, Hh, HB⟩, ⟨Ho, Ho'⟩, HD, Hr, HR⟩
  iapply (wp_wand_r Idealize.ShloMosaic.frame (wpE (defs₀ (F := F)) 𝒱₀ (c : Thread nD τ) none) Set.univ)
  isplitl [HW Hcur Hp Hn Hf Hh Ho Hr]
  · iapply (tripMid c XT XO arg0 harg0 arg1 harg1 w wt s k h2 h14)
    isplitl [HW]; · iexact HW
    isplitl [Hcur]; · iexact Hcur
    isplitl [Hp]; · iexact Hp
    isplitl [Hn]; · iexact Hn
    isplitl [Hf]; · iexact Hf
    isplitl [Hh]; · iexact Hh
    isplitl [Ho]; · iexact Ho
    iexact Hr
  · iintro %_ ⟨HW, Hcur, Hf, Hn, Hn', Hh, Hd, Ho⟩
    isplitl [HW]; · iexact HW
    isplitl [Hcur Hf Hn Hn']
    · isplitl [Hn]; · iexact Hn
      isplitl [Hcur]; · iexact Hcur
      isplitl [Hn']; · iexact Hn'
      iexact Hf
    isplitl [HA Hh HB]
    · isplitl [HA Hh]
      · isplitl [Hh]; · iexact Hh
        iexact HA
      iexact HB
    isplitl [Ho Ho']
    · isplitl [Ho']; · iexact Ho'
      iexact Ho
    isplitl [HD Hd]
    · isplitl [Hd]; · iexact Hd
      iexact HD
    iexact HR

/-- The first trip makes it the second's. -/
theorem stepFirst (k : Trip) (h0 : k.val = 0) :
    stAt c XT XO w wt s k.val ⊢ wp frame (wpE (defs₀ (F := F)) 𝒱₀ (c : Thread nD τ) none) Set.univ (tripProg arg0 harg0 arg1 harg1 w wt s k)
      (fun _ => stAt c XT XO w wt s (k.val + 1)) := by
  have T := tripFirst c XT XO arg0 harg0 arg1 harg1 w wt s k h0
  rw [show iprop(stAt c XT XO w wt s k.val) = stAt c XT XO w wt s 0 by rw [h0], show stAt c XT XO w wt s (k.val + 1) = stAt c XT XO w wt s 1 by rw [h0]]
  rw [show Ring.sl 4 k.val = 0 by rw [h0]; rfl, show Ring.bk 16 k.val = 0 by rw [h0]; rfl, show Ring.sl 4 (k.val + 3) = 3 by rw [h0]; rfl,
    show Ring.sl 4 (k.val + 1) = 1 by rw [h0]; rfl, show Ring.bk 16 (k.val + 1) = 1 by rw [h0]; rfl, show Ring.sl 4 (k.val + 2) = 2 by rw [h0]; rfl,
    show Ring.bk 16 (k.val + 2) = 2 by rw [h0]; rfl, show Ring.sl 2 k.val = 0 by rw [h0]; rfl] at T
  unfold stAt homes blocks
  rw [slots_zero, slots_mid c XT 1 (by omega) (by omega), show back 0 = 0 from rfl, show back 1 = 0 + 1 + 1 from rfl,
    sends_zero, sends_one _ _ _ _ _ _ 1 rfl, below_succ (inHome c XT) (0 + 1) (by omega), below_succ (inHome c XT) 0 (by omega), from_head (inHome c XT) (0 + 2) (by omega),
    from_head (fun b => resHas c b XO) 0 (by omega), show 1 - 2 = 0 - 2 by omega]
  simp only [show Ring.sl 4 1 = 1 from rfl, show Ring.sl 4 (1 + 3) = 0 from rfl, show Ring.sl 4 (1 + 1) = 2 from rfl, show Ring.sl 4 (1 + 2) = 3 from rfl, show Ring.bk 16 1 = 1 from rfl, show Ring.bk 16 (1 - 1) = 0 from rfl,
    show Ring.bk 16 (1 + 1) = 2 from rfl, show Ring.bk 16 (0 + 2) = 2 from rfl, show Ring.bk 16 (0 + 1) = 1 from rfl, show Ring.bk 16 0 = 0 from rfl, show Ring.sl 2 1 = 1 from rfl, show Ring.sl 2 (1 + 1) = 0 from rfl]
  iintro ⟨HW, ⟨Hcur, Hn, Hf, Hp⟩, ⟨HA, Hh, HB⟩, ⟨Ho, Ho'⟩, HD, Hr, HR⟩
  iapply (wp_wand_r Idealize.ShloMosaic.frame (wpE (defs₀ (F := F)) 𝒱₀ (c : Thread nD τ) none) Set.univ)
  isplitl [HW Hcur Hp Hn Hf Hh Ho Hr]
  · iapply T
    isplitl [HW]; · iexact HW
    isplitl [Hcur]; · iexact Hcur
    isplitl [Hp]; · iexact Hp
    isplitl [Hn]; · iexact Hn
    isplitl [Hf]; · iexact Hf
    isplitl [Hh]; · iexact Hh
    isplitl [Ho]; · iexact Ho
    iexact Hr
  · iintro %_ ⟨HW, Hcur, Hp, Hn, Hn', Hh, Hh', Ho⟩
    isplitl [HW]; · iexact HW
    isplitl [Hcur Hp Hn Hn']
    · isplitl [Hn]; · iexact Hn
      isplitl [Hcur]; · iexact Hcur
      isplitl [Hn']; · iexact Hn'
      iexact Hp
    isplitl [HA Hh Hh' HB]
    · isplitl [HA Hh Hh']
      · isplitl [Hh']; · iexact Hh'
        isplitl [Hh]; · iexact Hh
        iexact HA
      iexact HB
    isplitl [Ho Ho']
    · isplitl [Ho']; · iexact Ho'
      iexact Ho
    isplitl [HD]; · iexact HD
    iexact HR

/-- The second trip makes it a middle one's. -/
theorem stepSecond (k : Trip) (h1 : k.val = 1) :
    stAt c XT XO w wt s k.val ⊢ wp frame (wpE (defs₀ (F := F)) 𝒱₀ (c : Thread nD τ) none) Set.univ (tripProg arg0 harg0 arg1 harg1 w wt s k)
      (fun _ => stAt c XT XO w wt s (k.val + 1)) := by
  unfold stAt homes blocks
  rw [slots_mid c XT k.val (by omega) (by omega), slots_mid c XT (k.val + 1) (by omega) (by omega), back_mid (by omega) (by omega), back_mid (by omega) (by omega),
    sends_one _ _ _ _ _ _ _ h1, sends_mid _ _ _ _ _ _ (k.val + 1) (by omega), below_succ (inHome c XT) (k.val + 1) (by omega), from_head (inHome c XT) (k.val + 2) (by omega),
    from_head (fun b => resHas c b XO) k.val (by omega), show k.val + 1 - 2 = k.val - 2 by omega,
    sl2_add2, sl4_prev, show k.val + 1 - 1 = k.val by omega, show k.val - 2 = k.val - 1 by omega]
  iintro ⟨HW, ⟨Hcur, Hp, Hn, Hf⟩, ⟨HA, Hh, HB⟩, ⟨Ho, Ho'⟩, HD, Hr, HR⟩
  iapply (wp_wand_r Idealize.ShloMosaic.frame (wpE (defs₀ (F := F)) 𝒱₀ (c : Thread nD τ) none) Set.univ)
  isplitl [HW Hcur Hp Hn Hf Hh Ho Hr]
  · iapply (tripSecond c XT XO arg0 harg0 arg1 harg1 w wt s k h1)
    isplitl [HW]; · iexact HW
    isplitl [Hcur]; · iexact Hcur
    isplitl [Hp]; · iexact Hp
    isplitl [Hn]; · iexact Hn
    isplitl [Hf]; · iexact Hf
    isplitl [Hh]; · iexact Hh
    isplitl [Ho]; · iexact Ho
    iexact Hr
  · iintro %_ ⟨HW, Hcur, Hf, Hn, Hn', Hh, Ho⟩
    isplitl [HW]; · iexact HW
    isplitl [Hcur Hf Hn Hn']
    · isplitl [Hn]; · iexact Hn
      isplitl [Hcur]; · iexact Hcur
      isplitl [Hn']; · iexact Hn'
      iexact Hf
    isplitl [HA Hh HB]
    · isplitl [HA Hh]
      · isplitl [Hh]; · iexact Hh
        iexact HA
      iexact HB
    isplitl [Ho Ho']
    · isplitl [Ho']; · iexact Ho'
      iexact Ho
    isplitl [HD]; · iexact HD
    iexact HR

/-- The last trip but one makes it the last's: no block is under way. -/
theorem stepLast1 (k : Trip) (h : k.val = 14) :
    stAt c XT XO w wt s k.val ⊢ wp frame (wpE (defs₀ (F := F)) 𝒱₀ (c : Thread nD τ) none) Set.univ (tripProg arg0 harg0 arg1 harg1 w wt s k)
      (fun _ => stAt c XT XO w wt s (k.val + 1)) := by
  unfold stAt homes blocks
  rw [slots_mid c XT k.val (by omega) (by omega), slots_last c XT (k.val + 1) (by omega), back_mid (by omega) (by omega), show back (k.val + 1) = k.val + 1 + 1 by rw [h]; rfl,
    sends_mid _ _ _ _ _ _ _ (by omega), sends_mid _ _ _ _ _ _ (k.val + 1) (by omega), below_succ (inHome c XT) (k.val + 1) (by omega), from_end (inHome c XT) (k.val + 1 + 2) (k.val + 2) (by omega) (by omega),
    from_head (fun b => resHas c b XO) k.val (by omega), show k.val + 1 - 2 = k.val - 2 + 1 by omega, below_succ (resDone c XT XO w wt s) (k.val - 2) (by omega),
    sl2_add2, sl4_prev, show k.val + 1 - 1 = k.val by omega, show k.val - 2 + 1 = k.val - 1 by omega]
  iintro ⟨HW, ⟨Hcur, Hp, Hn, Hf⟩, ⟨HA, HB⟩, ⟨Ho, Ho'⟩, HD, Hr, HR⟩
  iapply (wp_wand_r Idealize.ShloMosaic.frame (wpE (defs₀ (F := F)) 𝒱₀ (c : Thread nD τ) none) Set.univ)
  isplitl [HW Hcur Hp Hn Ho Hr]
  · iapply (tripLast1 c XT XO arg0 harg0 arg1 harg1 w wt s k h)
    isplitl [HW]; · iexact HW
    isplitl [Hcur]; · iexact Hcur
    isplitl [Hp]; · iexact Hp
    isplitl [Hn]; · iexact Hn
    isplitl [Ho]; · iexact Ho
    iexact Hr
  · iintro %_ ⟨HW, Hcur, Hp, Hn, Hh, Hd, Ho⟩
    isplitl [HW]; · iexact HW
    isplitl [Hcur Hp Hn Hf]
    · isplitl [Hn]; · iexact Hn
      isplitl [Hcur]; · iexact Hcur
      isplitl [Hf]; · iexact Hf
      iexact Hp
    isplitl [HA Hh HB]
    · isplitl [HA Hh]
      · isplitl [Hh]; · iexact Hh
        iexact HA
      iexact HB
    isplitl [Ho Ho']
    · isplitl [Ho']; · iexact Ho'
      iexact Ho
    isplitl [HD Hd]
    · isplitl [Hd]; · iexact Hd
      iexact HD
    iexact HR

/-- A slot that holds a block may be called free. -/
theorem keeps_free (o : Fin 4) (b : Fin 16) : keeps c XT o b ⊢ inFree c o := by
  iintro ⟨H, Hc⟩
  isplitl [H]; · iexists _; iexact H
  iexact Hc

/-- The last trip leaves the four slots free and every input block home. -/
theorem stepLast (k : Trip) (h : k.val = 15) :
    stAt c XT XO w wt s k.val ⊢ wp frame (wpE (defs₀ (F := F)) 𝒱₀ (c : Thread nD τ) none) Set.univ (tripProg arg0 harg0 arg1 harg1 w wt s k)
      (fun _ => stAt c XT XO w wt s (k.val + 1)) := by
  unfold stAt homes blocks
  rw [slots_last c XT k.val h, slots_end c XT (k.val + 1) (by omega), back_last (by omega), back_last (by omega),
    sends_mid _ _ _ _ _ _ _ (by omega), sends_mid _ _ _ _ _ _ (k.val + 1) (by omega), from_end (inHome c XT) (k.val + 1 + 2) (k.val + 2) (by omega) (by omega),
    from_head (fun b => resHas c b XO) k.val (by omega), show k.val + 1 - 2 = k.val - 2 + 1 by omega, below_succ (resDone c XT XO w wt s) (k.val - 2) (by omega),
    sl2_add2, show k.val + 1 - 1 = k.val by omega, show k.val - 2 + 1 = k.val - 1 by omega]
  iintro ⟨HW, ⟨Hcur, Hp, Hn, Hf⟩, ⟨HA, HB⟩, ⟨Ho, Ho'⟩, HD, Hr, HR⟩
  iapply (wp_wand_r Idealize.ShloMosaic.frame (wpE (defs₀ (F := F)) 𝒱₀ (c : Thread nD τ) none) Set.univ)
  isplitl [HW Hcur Hp Hn Ho Hr]
  · iapply (tripLast c XT XO arg0 harg0 arg1 harg1 w wt s k h)
    isplitl [HW]; · iexact HW
    isplitl [Hcur]; · iexact Hcur
    isplitl [Hp]; · iexact Hp
    isplitl [Hn]; · iexact Hn
    isplitl [Ho]; · iexact Ho
    iexact Hr
  · rw [show Ring.sl 4 k.val = 3 by rw [h]; rfl, show Ring.sl 4 (k.val + 3) = 2 by rw [h]; rfl, show Ring.sl 4 (k.val + 1) = 0 by rw [h]; rfl, show Ring.sl 4 (k.val + 2) = 1 by rw [h]; rfl]
    iintro %_ ⟨HW, Hcur, Hp, Hn, Hd, Ho⟩
    isplitl [HW]; · iexact HW
    isplitl [Hcur Hp Hn Hf]
    · isplitl [Hn]; · iexact Hn
      isplitl [Hf]; · iexact Hf
      isplitl [Hp]; · iexact Hp
      iapply (keeps_free c XT 3 (Ring.bk 16 k.val)); iexact Hcur
    isplitl [HA HB]
    · isplitl [HA]; · iexact HA
      iexact HB
    isplitl [Ho Ho']
    · isplitl [Ho']; · iexact Ho'
      iexact Ho
    isplitl [HD Hd]
    · isplitl [Hd]; · iexact Hd
      iexact HD
    iexact HR

/-- Every trip takes the invariant on by one. -/
theorem stepAny (k : Trip) :
    stAt c XT XO w wt s k.val ⊢ wp frame (wpE (defs₀ (F := F)) 𝒱₀ (c : Thread nD τ) none) Set.univ (tripProg arg0 harg0 arg1 harg1 w wt s k)
      (fun _ => stAt c XT XO w wt s (k.val + 1)) := by
  have hk := trip_lt k
  by_cases h0 : k.val = 0
  · exact stepFirst c XT XO arg0 harg0 arg1 harg1 w wt s k h0
  by_cases h1 : k.val = 1
  · exact stepSecond c XT XO arg0 harg0 arg1 harg1 w wt s k h1
  by_cases h14 : k.val = 14
  · exact stepLast1 c XT XO arg0 harg0 arg1 harg1 w wt s k h14
  by_cases h15 : k.val = 15
  · exact stepLast c XT XO arg0 harg0 arg1 harg1 w wt s k h15
  exact stepMid c XT XO arg0 harg0 arg1 harg1 w wt s k (by omega) (by omega)

set_option warn.classDefReducibility false in
/-- The loop's invariant, for whatever the target and the result hold at its start. -/
@[sl_loop] def loopInv : LoopInvTy_k0_t1 (F := F) Unit ℕ (UU nD τ) ℕ 𝒱₀ c none Set.univ arg0 harg0 arg1 harg1 tgtM (Memref.isWhole_whole _) resM (Memref.isWhole_whole _)
    inM (Memref.isWhole_whole _) outM (Memref.isWhole_whole _) cc0_scratch2 cc0_scratch3 w wt s where
  inv k _ := stAt c XT XO w wt s k
  step k _ := stepAny c XT XO arg0 harg0 arg1 harg1 w wt s k

end Inv

end Cert.Proof.Stencil

end
-- ==== Proof.Body.lean ====
/-
  The whole kernel body, from everything at rest to everything at rest: the input blocks come back as they were, the
  output blocks come back written.
-/
module

public import proofs.«01_k».proof.Proof.Loop

@[expose] public section

noncomputable section

namespace Cert.Proof.Stencil

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Body
variable (c : Dev nD) (XT : Buf (Elt F) (tgtM.view.loc (c : Thread nD τ))) (XO : Buf (Elt F) (resM.view.loc (c : Thread nD τ)))
  (arg0 : Memref sig .tc .smem S11 .i32) (harg0 : arg0.IsWhole) (arg1 : Memref sig .tc .smem S3 .f32) (harg1 : arg1.IsWhole)

/-- The body on its staging buffers. -/
abbrev bodyProg : Prog (TpuEff nD τ sig (Elt F) Λ₀ .tc) PUnit :=
  cc0_spatial_hot_stencil (F := F) arg0 harg0 arg1 harg1 tgtM (Memref.isWhole_whole _) resM (Memref.isWhole_whole _) inM (Memref.isWhole_whole _) outM (Memref.isWhole_whole _) cc0_scratch2 cc0_scratch3

/-- The staging buffer of the three scalars, held at `g`. -/
abbrev argHas (g : Buf (Elt F) (arg1.view.loc (c : Thread nD τ))) : sProp 𝕄 := arg1.view.loc (c : Thread nD τ) ↦[arg1.view.set]{fullShare} g

/-- The scalars as the body reads them: a neighbour's weight, the true class's, the weights' sum. -/
abbrev wOf (g : Buf (Elt F) (arg1.view.loc (c : Thread nD τ))) : Elt F .f32 :=
  arg1.view.readAt (Elt F) (Rect.unit (s := S3) ![0] S1.size inb_S3_S1_0).toLoadRect g (Shape.Idx.first (by decide))
abbrev wtOf (g : Buf (Elt F) (arg1.view.loc (c : Thread nD τ))) : Elt F .f32 :=
  arg1.view.readAt (Elt F) (Rect.unit (s := S3) ![1] S1.size inb_S3_S1_1).toLoadRect g (Shape.Idx.first (by decide))
abbrev sOf (g : Buf (Elt F) (arg1.view.loc (c : Thread nD τ))) : Elt F .f32 :=
  arg1.view.readAt (Elt F) (Rect.unit (s := S3) ![2] S1.size inb_S3_S1_2).toLoadRect g (Shape.Idx.first (by decide))

/-- The six slots free. -/
abbrev slotsFree : sProp 𝕄 := iprop(inFree c 0 ∗ inFree c 1 ∗ inFree c 2 ∗ inFree c 3 ∗ outFree c 0 ∗ outFree c 1)

/-- What the body is handed. -/
abbrev bodyPre (g : Buf (Elt F) (arg1.view.loc (c : Thread nD τ))) : sProp 𝕄 :=
  iprop(argHas c arg1 g ∗ (inHome c XT 0 ∗ inHome c XT 1 ∗ bigSep (Ring.rangeSet 16 (0 + 2) 16) (inHome c XT)) ∗ slotsFree c ∗ bigSep (Ring.rangeSet 16 0 16) (fun b => resHas c b XO) ∗ owing c)
/-- What it hands back. -/
abbrev bodyPost (g : Buf (Elt F) (arg1.view.loc (c : Thread nD τ))) : sProp 𝕄 :=
  iprop(argHas c arg1 g ∗ bigSep (Ring.rangeSet 16 0 16) (inHome c XT) ∗ slotsFree c
    ∗ bigSep (Ring.rangeSet 16 0 16) (resDone c XT XO (wOf c arg1 g) (wtOf c arg1 g) (sOf c arg1 g)) ∗ owing c)

/-- After the last trip: the input slots free, every input block home, output blocks 14 and 15 on their way, the rest written. -/
theorem stAt_end (w wt s : Elt F .f32) : stAt c XT XO w wt s 16 ⊢ iprop(owing c ∗ (inFree c 0 ∗ inFree c 1 ∗ inFree c 2 ∗ inFree c 3)
    ∗ bigSep (Ring.rangeSet 16 0 16) (inHome c XT) ∗ (sending c XT XO w wt s 0 14 ∗ sending c XT XO w wt s 1 15) ∗ bigSep (Ring.rangeSet 16 0 14) (resDone c XT XO w wt s)) := by
  unfold stAt homes blocks
  rw [slots_end c XT 16 (le_refl _), sends_mid c XT XO w wt s 16 (by omega), back_last (by omega)]
  iintro ⟨HW, HS, ⟨HA, -⟩, HO, HD, -⟩
  isplitl [HW]; · iexact HW
  isplitl [HS]; · iexact HS
  isplitl [HA]; · iexact HA
  isplitl [HO]; · iexact HO
  iexact HD

/-- Sixteen written blocks: fourteen, and two more. -/
theorem done_all (w wt s : Elt F .f32) : iprop(bigSep (Ring.rangeSet 16 0 14) (resDone c XT XO w wt s) ∗ resDone c XT XO w wt s 14 ∗ resDone c XT XO w wt s 15)
    ⊢ bigSep (Ring.rangeSet 16 0 16) (resDone c XT XO w wt s) := by
  have e15 := below_succ (resDone c XT XO w wt s) 15 (by omega)
  have e14 := below_succ (resDone c XT XO w wt s) 14 (by omega)
  refine .trans ?_ (entails_of_eq e15.symm)
  refine .trans ?_ (sep_mono .rfl (entails_of_eq e14.symm))
  iintro ⟨H, H14, H15⟩
  isplitl [H15]; · iexact H15
  isplitl [H14]; · iexact H14
  iexact H

attribute [local irreducible] stAt in
/-- The body, run: the two first transfers, the loop by its invariant, the two last waits. -/
theorem bodyRun (g : Buf (Elt F) (arg1.view.loc (c : Thread nD τ))) (Q : PUnit → sProp 𝕄) :
    iprop(bodyPre c XT XO arg1 g ∗ (bodyPost c XT XO arg1 g -∗ Q ⟨⟩))
      ⊢ wp frame (wpE (defs₀ (F := F)) 𝒱₀ (c : Thread nD τ) none) Set.univ (bodyProg arg0 harg0 arg1 harg1) Q := by
  iintro ⟨⟨Hg, ⟨Hh0, Hh1, HB⟩, ⟨⟨⟨%f0, H0⟩, Hc0⟩, ⟨⟨%f1, H1⟩, Hc1⟩, H2, H3, Ho0, Ho1⟩, HR, ⟨%W, HW⟩⟩, Hk⟩
  sl_exec
  ihave H : stAt c XT XO (bodyRun.sl.r c arg1 g) (bodyRun.sl.r_1 c arg1 g) (bodyRun.sl.r_2 c arg1 g) 0 $$ [HB H2 H3 Ho0 Ho1 HR HW Hc0 Hc1]
  · unfold stAt
    unfold homes blocks
    rw [slots_zero, sends_zero, show back 0 = 0 from rfl, Ring.bigSep_rangeSet_empty (le_refl 0), show 0 - 2 = 0 from rfl, Ring.bigSep_rangeSet_empty (le_refl 0)]
    isplitl [HW]; · iexists W; iexact HW
    isplitl [Hc0 Hc1 H2 H3]
    · isplitl [Hc0]; · iexists f0; iexact Hc0
      isplitl [Hc1]; · iexists f1; iexact Hc1
      isplitl [H2]; · iexact H2
      iexact H3
    isplitl [HB]
    · isplitr; · iempintro
      iexact HB
    isplitl [Ho0 Ho1]
    · isplitl [Ho0]; · iexact Ho0
      iexact Ho1
    isplitr; · iempintro
    iexact HR
  sl_exec
  ihave H' := (stAt_end c XT XO (bodyRun.sl.r c arg1 g) (bodyRun.sl.r_1 c arg1 g) (bodyRun.sl.r_2 c arg1 g)) $$ [H]
  · iexact H
  icases H' with ⟨⟨%W', HW⟩, HS, HA, ⟨⟨%g0, Hs0⟩, ⟨%g1, Hs1⟩⟩, HD⟩
  sl_exec
  sl_step
  iapply Hk
  icases HS with ⟨HS0, HS1, HS2, HS3⟩
  isplitl [Hg]; · iexact Hg
  isplitl [HA]; · iexact HA
  isplitl [HS0 HS1 HS2 HS3 Hs0_src Hs0 Hs1_src Hs1]
  · isplitl [HS0]; · iexact HS0
    isplitl [HS1]; · iexact HS1
    isplitl [HS2]; · iexact HS2
    isplitl [HS3]; · iexact HS3
    isplitl [Hs0_src Hs0]
    · isplitl [Hs0_src]; · iexists g0; iexact Hs0_src
      iexact Hs0
    isplitl [Hs1_src]; · iexists g1; iexact Hs1_src
    iexact Hs1
  isplitl [HD Hs0_dst Hs1_dst]
  · iapply (done_all c XT XO (wOf c arg1 g) (wtOf c arg1 g) (sOf c arg1 g))
    isplitl [HD]; · iexact HD
    isplitl [Hs0_dst]; · iexact Hs0_dst
    iexact Hs1_dst
  iexists _; iexact HW

end Body

end Cert.Proof.Stencil

end
-- ==== Proof.Launch.lean ====
/-
  The launch: the arrays cut into their blocks and the buffers into their slots, the body run once between them, and
  the blocks put together again. The final memory holds the arguments as they were and the result as the trips wrote
  it; every semaphore is back at zero.
-/
module

public import proofs.«01_k».proof.Proof.Body
public import proofs.«01_k».proof.Proof.Gen.KernelIdeal.Frame

@[expose] public section

set_option maxRecDepth 16384

noncomputable section

namespace Cert.Proof.Stencil

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The result, whole -/

/-- Word `(d, r, x)` of the result: word `(d, r % 128, x)` of what trip `r / 128` sends. -/
def resAll (c : Dev nD) (XT : Buf (Elt F) (tgtM.view.loc (c : Thread nD τ))) (w wt s : Elt F .f32) : S11x2048x2048.Idx → Elt F .f32 :=
  fun y => outWords c XT w wt s ⟨(y 1).val / 128, by have : (y 1).val < 2048 := (y 1).isLt; omega⟩ (ix3 (y 0) ⟨(y 1).val % 128, by omega⟩ (y 2))

/-! ## Which elements a block or a slot is -/

abbrev inBlkSet (b : Fin 16) : Finset S2048x2048.Idx := (Rect.unit (s := S2048x2048) (inBlkOff b) S128x2048.size (inBlkOff_inb b)).set
abbrev outBlkSet (b : Fin 16) : Finset S11x2048x2048.Idx := (Rect.unit (s := S11x2048x2048) (outBlkOff b) S11x128x2048.size (outBlkOff_inb b)).set
abbrev inSlotSet (s : Fin 4) : Finset S4x128x2048.Idx := (Rect.unit (s := S4x128x2048) (inSlotOff s) S1x128x2048.size (inSlotOff_inb s)).set
abbrev outSlotSet (s : Fin 2) : Finset S2x11x128x2048.Idx := (Rect.unit (s := S2x11x128x2048) (outSlotOff s) S1x11x128x2048.size (outSlotOff_inb s)).set

theorem inBlk_set (b : Fin 16) : (inBlk b).view.set = inBlkSet b := View.set_slice_whole _ _
theorem outBlk_set (b : Fin 16) : (outBlk b).view.set = outBlkSet b := View.set_slice_whole _ _
theorem inSlot_set (s : Fin 4) : (inSlot s).view.set = inSlotSet s := (View.set_reshape _ _).trans (View.set_slice_whole _ _)
theorem outSlot_set (s : Fin 2) : (outSlot s).view.set = outSlotSet s := (View.set_reshape _ _).trans (View.set_slice_whole _ _)

/-- An input block is the rows with its number. -/
theorem mem_inBlkSet (b : Fin 16) (y : S2048x2048.Idx) : y ∈ inBlkSet b ↔ (y 0).val / 128 = b.val := by
  rw [Rect.mem_set_unit]
  have h1 : (y 1).val < 2048 := (y 1).isLt
  constructor
  · intro H; have a0 : 128 * b.val ≤ (y 0).val ∧ (y 0).val < 128 * b.val + 128 := H 0; omega
  · intro H i; fin_cases i
    · show 128 * b.val ≤ (y 0).val ∧ (y 0).val < 128 * b.val + 128; omega
    · show 0 ≤ (y 1).val ∧ (y 1).val < 0 + 2048; omega
/-- An output block is the rows with its number, of every class. -/
theorem mem_outBlkSet (b : Fin 16) (y : S11x2048x2048.Idx) : y ∈ outBlkSet b ↔ (y 1).val / 128 = b.val := by
  rw [Rect.mem_set_unit]
  have h0 : (y 0).val < 11 := (y 0).isLt
  have h2 : (y 2).val < 2048 := (y 2).isLt
  constructor
  · intro H; have a0 : 128 * b.val ≤ (y 1).val ∧ (y 1).val < 128 * b.val + 128 := H 1; omega
  · intro H i; fin_cases i
    · show 0 ≤ (y 0).val ∧ (y 0).val < 0 + 11; omega
    · show 128 * b.val ≤ (y 1).val ∧ (y 1).val < 128 * b.val + 128; omega
    · show 0 ≤ (y 2).val ∧ (y 2).val < 0 + 2048; omega
/-- An input slot is the entries with its number. -/
theorem mem_inSlotSet (s : Fin 4) (y : S4x128x2048.Idx) : y ∈ inSlotSet s ↔ (y 0).val = s.val := by
  rw [Rect.mem_set_unit]
  have h1 : (y 1).val < 128 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 128; omega
    · show 0 ≤ (y 2).val ∧ (y 2).val < 0 + 2048; omega
/-- An output slot is the entries with its number. -/
theorem mem_outSlotSet (s : Fin 2) (y : S2x11x128x2048.Idx) : y ∈ outSlotSet s ↔ (y 0).val = s.val := by
  rw [Rect.mem_set_unit]
  have h1 : (y 1).val < 11 := (y 1).isLt
  have h2 : (y 2).val < 128 := (y 2).isLt
  have h3 : (y 3).val < 2048 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 11; omega
    · show 0 ≤ (y 2).val ∧ (y 2).val < 0 + 128; omega
    · show 0 ≤ (y 3).val ∧ (y 3).val < 0 + 2048; omega

/-- Sets no two of which meet and which together are everything. -/
def Parts {α : Type} [Fintype α] [DecidableEq α] {n : ℕ} (I : Fin n → Finset α) : Prop :=
  (∀ b b' : Fin n, b ≠ b' → Disjoint (I b) (I b')) ∧ (Finset.univ : Finset (Fin n)).biUnion I = Finset.univ
/-- Sets told apart by a number are such. -/
theorem parts {α : Type} [Fintype α] [DecidableEq α] {n : ℕ} (I : Fin n → Finset α) (f : α → ℕ) (hf : ∀ y, f y < n) (h : ∀ b y, y ∈ I b ↔ f y = b.val) :
    Parts I := by
  constructor
  · intro b b' hne
    rw [Finset.disjoint_left]
    intro y hy hy'
    rw [h] at hy hy'
    exact hne (Fin.ext (hy.symm.trans hy'))
  · ext y
    simp only [Finset.mem_biUnion, Finset.mem_univ, true_and, iff_true]
    exact ⟨⟨f y, hf y⟩, (h _ _).mpr rfl⟩

theorem inBlk_parts : Parts inBlkSet := parts inBlkSet (fun y => (y 0).val / 128) (fun y => by have : (y 0).val < 2048 := (y 0).isLt; omega) mem_inBlkSet
theorem outBlk_parts : Parts outBlkSet := parts outBlkSet (fun y => (y 1).val / 128) (fun y => by have : (y 1).val < 2048 := (y 1).isLt; omega) mem_outBlkSet
theorem inSlot_parts : Parts inSlotSet := parts inSlotSet (fun y => (y 0).val) (fun y => (y 0).isLt) mem_inSlotSet
theorem outSlot_parts : Parts outSlotSet := parts outSlotSet (fun y => (y 0).val) (fun y => (y 0).isLt) mem_outSlotSet

section Pieces
variable (c : Dev nD) (XT : Buf (Elt F) (tgtM.view.loc (c : Thread nD τ))) (XO : Buf (Elt F) (resM.view.loc (c : Thread nD τ)))

/-- The target whole is its sixteen blocks. -/
theorem tgt_eq : (((c : Thread nD τ).loc main_v0) ↦{fullShare} XT : sProp 𝕄) = bigSep (Ring.rangeSet 16 0 16) (inHome c XT) := by
  rw [Ring.rangeSet_univ, Ring.pointsTo_blocks (ℓ := (c : Thread nD τ).loc main_v0) inBlkSet inBlk_parts.1 inBlk_parts.2]
  exact bigSep_congr fun b _ => by rw [← inBlk_set]; rfl
/-- The result whole is its sixteen blocks. -/
theorem res_eq : (((c : Thread nD τ).loc main_v11) ↦{fullShare} XO : sProp 𝕄) = bigSep (Ring.rangeSet 16 0 16) (fun b => resHas c b XO) := by
  rw [Ring.rangeSet_univ, Ring.pointsTo_blocks (ℓ := (c : Thread nD τ).loc main_v11) outBlkSet outBlk_parts.1 outBlk_parts.2]
  exact bigSep_congr fun b _ => by rw [← outBlk_set]; rfl

/-- A block after its words have landed agrees with the whole result on that block. -/
theorem written_eq (w wt s : Elt F .f32) (b : Fin 16) (y : S11x2048x2048.Idx) (hy : y ∈ outBlkSet b) :
    written c XO b (outWords c XT w wt s b) y = resAll c XT w wt s y := by
  have hb := (mem_outBlkSet b y).mp hy
  have h1 : (y 1).val < 2048 := (y 1).isLt
  let x : S11x128x2048.Idx := ix3 (y 0) ⟨(y 1).val % 128, by omega⟩ (y 2)
  have e : ((outBlk b).view.slice (Rect.whole S11x128x2048)).emb x = y :=
    funext fun a => Fin.ext (by
      match a with
      | ⟨0, _⟩ => show 0 + 1 * (0 + 1 * (y 0).val) = (y 0).val; omega
      | ⟨1, _⟩ => show 128 * b.val + 1 * (0 + 1 * ((y 1).val % 128)) = (y 1).val; omega
      | ⟨2, _⟩ => show 0 + 1 * (0 + 1 * (y 2).val) = (y 2).val; omega)
  have h := View.write_emb_of_mem (v := (outBlk b).view.slice (Rect.whole S11x128x2048)) (Val := Elt F) XO (outWords c XT w wt s b) (Finset.mem_univ x)
  refine (congrArg (written c XO b (outWords c XT w wt s b)) e.symm).trans (h.trans ?_)
  unfold resAll
  rw [show (⟨(y 1).val / 128, by omega⟩ : Fin 16) = b from Fin.ext hb]
  rfl

/-- The result whole, at what the trips sent, is its sixteen blocks written. -/
theorem done_eq (w wt s : Elt F .f32) : (((c : Thread nD τ).loc main_v11) ↦{fullShare} resAll c XT w wt s : sProp 𝕄)
    = bigSep (Ring.rangeSet 16 0 16) (resDone c XT XO w wt s) := by
  rw [Ring.rangeSet_univ, Ring.pointsTo_blocks (ℓ := (c : Thread nD τ).loc main_v11) outBlkSet outBlk_parts.1 outBlk_parts.2]
  refine bigSep_congr fun b _ => ?_
  refine (pointsTo_congr fun y hy => (written_eq c XT XO w wt s b y hy).symm).trans ?_
  rw [← outBlk_set]; rfl

omit [FloatOps F] in
theorem inHas_eq (s : Fin 4) (f) : inHas c s f = (((c : Thread nD τ).loc cc0_scratch0) ↦[inSlotSet s]{fullShare} f : sProp 𝕄) :=
  congrArg (fun S => (_ ↦[S]{fullShare} f : sProp 𝕄)) (inSlot_set s)
omit [FloatOps F] in
theorem outHas_eq (s : Fin 2) (f) : outHas c s f = (((c : Thread nD τ).loc cc0_scratch1) ↦[outSlotSet s]{fullShare} f : sProp 𝕄) :=
  congrArg (fun S => (_ ↦[S]{fullShare} f : sProp 𝕄)) (outSlot_set s)

omit [FloatOps F] in
theorem four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
omit [FloatOps F] in
theorem two (Φ : Fin 2 → sProp 𝕄) : bigSep Finset.univ Φ = iprop(Φ 0 ∗ Φ 1) :=
  bigSep_univ_eq_bigSepL [(0 : Fin 2), 1] (by decide) (by decide) Φ

/-- The input ring whole, cut into its slots, -/
theorem ring_split : iprop(∃ f : Buf (Elt F) ((c : Thread nD τ).loc cc0_scratch0), ((c : Thread nD τ).loc cc0_scratch0) ↦{fullShare} f)
    ⊢ (iprop((∃ f, inHas c 0 f) ∗ (∃ f, inHas c 1 f) ∗ (∃ f, inHas c 2 f) ∗ (∃ f, inHas c 3 f)) : sProp 𝕄) := by
  iintro ⟨%f, H⟩
  ihave H' := (entails_of_eq ((Ring.pointsTo_blocks (Ix := Unit) (Name := ℕ) (U := UU nD τ) (Lvl := ℕ) (q := fullShare) (ℓ := (c : Thread nD τ).loc cc0_scratch0) inSlotSet inSlot_parts.1 inSlot_parts.2 f).trans (four _))) $$ H
  icases H' with ⟨H0, H1, H2, H3⟩
  isplitl [H0]; · iexists f; iapply (entails_of_eq (inHas_eq c 0 f).symm); iexact H0
  isplitl [H1]; · iexists f; iapply (entails_of_eq (inHas_eq c 1 f).symm); iexact H1
  isplitl [H2]; · iexists f; iapply (entails_of_eq (inHas_eq c 2 f).symm); iexact H2
  iexists f; iapply (entails_of_eq (inHas_eq c 3 f).symm); iexact H3
/-- and put together again. -/
theorem ring_join : iprop((∃ f, inHas c 0 f) ∗ (∃ f, inHas c 1 f) ∗ (∃ f, inHas c 2 f) ∗ (∃ f, inHas c 3 f))
    ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch0) inSlotSet inSlot_parts.1 inSlot_parts.2 f0)
  irw [four]
  isplitl [H0]; · iexists f0; iapply (entails_of_eq (inHas_eq c 0 f0)); iexact H0
  isplitl [H1]; · iexists f1; iapply (entails_of_eq (inHas_eq c 1 f1)); iexact H1
  isplitl [H2]; · iexists f2; iapply (entails_of_eq (inHas_eq c 2 f2)); iexact H2
  iexists f3; iapply (entails_of_eq (inHas_eq c 3 f3)); iexact H3
/-- The output buffer likewise, cut -/
theorem outbuf_split : iprop(∃ f : Buf (Elt F) ((c : Thread nD τ).loc cc0_scratch1), ((c : Thread nD τ).loc cc0_scratch1) ↦{fullShare} f)
    ⊢ (iprop((∃ f, outHas c 0 f) ∗ (∃ f, outHas c 1 f)) : sProp 𝕄) := by
  iintro ⟨%f, H⟩
  ihave H' := (entails_of_eq ((Ring.pointsTo_blocks (Ix := Unit) (Name := ℕ) (U := UU nD τ) (Lvl := ℕ) (q := fullShare) (ℓ := (c : Thread nD τ).loc cc0_scratch1) outSlotSet outSlot_parts.1 outSlot_parts.2 f).trans (two _))) $$ H
  icases H' with ⟨H0, H1⟩
  isplitl [H0]; · iexists f; iapply (entails_of_eq (outHas_eq c 0 f).symm); iexact H0
  iexists f; iapply (entails_of_eq (outHas_eq c 1 f).symm); iexact H1
/-- and put together. -/
theorem outbuf_join : iprop((∃ f, outHas c 0 f) ∗ (∃ f, outHas c 1 f))
    ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) outSlotSet outSlot_parts.1 outSlot_parts.2 f0)
  irw [two]
  isplitl [H0]; · iexists f0; iapply (entails_of_eq (outHas_eq c 0 f0)); iexact H0
  iexists f1; iapply (entails_of_eq (outHas_eq c 1 f1)); iexact H1

/-- The kernel's own semaphores: the slots'. -/
abbrev osem : Fin 6 → SemLoc sig := ![.dma (inSem 0).sem, .dma (inSem 1).sem, .dma (inSem 2).sem, .dma (inSem 3).sem, .dma (outSem 0).sem, .dma (outSem 1).sem]
theorem ownSemFacts : Pipeline.OwnSemFacts spec0 osem := by decide

omit [FloatOps F] in
/-- They are all at zero when each slot's is. -/
theorem ownSems0_eq : (Pipeline.ownSems0 (Ix := Unit) (Name := ℕ) (U := UU nD τ) (Lvl := ℕ) (Val := Elt F) (τ := τ) osem c : sProp 𝕄)
    = iprop(inCell c 0 ∗ inCell c 1 ∗ inCell c 2 ∗ inCell c 3 ∗ outCell c 0 ∗ outCell c 1) := by
  unfold Pipeline.ownSems0
  exact bigSep_univ_eq_bigSepL [(0 : Fin 6), 1, 2, 3, 4, 5] (by decide) (by decide) _

/-- The buffers whole and the semaphores at zero are the six slots free, -/
theorem slots_split : iprop(Pipeline.ownSems0 (Ix := Unit) (Name := ℕ) (U := UU nD τ) (Lvl := ℕ) (Val := Elt F) (τ := τ) osem c ∗ Pipeline.scopedRest spec0 c)
    ⊢ (slotsFree c : sProp 𝕄) := by
  rw [scopedRest0_eq, ownSems0_eq]
  iintro ⟨⟨C0, C1, C2, C3, D0, D1⟩, HI, HO⟩
  ihave HI' := (ring_split c) $$ HI
  ihave HO' := (outbuf_split c) $$ HO
  icases HI' with ⟨H0, H1, H2, H3⟩
  icases HO' with ⟨O0, O1⟩
  isplitl [H0 C0]; · isplitl [H0]; · iexact H0
                     iexact C0
  isplitl [H1 C1]; · isplitl [H1]; · iexact H1
                     iexact C1
  isplitl [H2 C2]; · isplitl [H2]; · iexact H2
                     iexact C2
  isplitl [H3 C3]; · isplitl [H3]; · iexact H3
                     iexact C3
  isplitl [O0 D0]; · isplitl [O0]; · iexact O0
                     iexact D0
  isplitl [O1]; · iexact O1
  iexact D1
/-- and back. -/
theorem slots_join : (slotsFree c : sProp 𝕄)
    ⊢ iprop(Pipeline.ownSems0 (Ix := Unit) (Name := ℕ) (U := UU nD τ) (Lvl := ℕ) (Val := Elt F) (τ := τ) osem c ∗ Pipeline.scopedRest spec0 c) := by
  rw [scopedRest0_eq, ownSems0_eq]
  iintro ⟨⟨H0, C0⟩, ⟨H1, C1⟩, ⟨H2, C2⟩, ⟨H3, C3⟩, ⟨O0, D0⟩, ⟨O1, D1⟩⟩
  isplitl [C0 C1 C2 C3 D0 D1]
  · isplitl [C0]; · iexact C0
    isplitl [C1]; · iexact C1
    isplitl [C2]; · iexact C2
    isplitl [C3]; · iexact C3
    isplitl [D0]; · iexact D0
    iexact D1
  isplitl [H0 H1 H2 H3]
  · iapply (ring_join c)
    isplitl [H0]; · iexact H0
    isplitl [H1]; · iexact H1
    isplitl [H2]; · iexact H2
    iexact H3
  iapply (outbuf_join c)
  isplitl [O0]; · iexact O0
  iexact O1

/-- Blocks 0 and 1 apart from the rest. -/
theorem homes_two : bigSep (Ring.rangeSet 16 0 16) (inHome c XT) = iprop(inHome c XT 0 ∗ inHome c XT 1 ∗ bigSep (Ring.rangeSet 16 (0 + 2) 16) (inHome c XT)) := by
  rw [from_head (inHome c XT) 0 (by omega), from_head (inHome c XT) (0 + 1) (by omega)]
  rfl

end Pieces

end Cert.Proof.Stencil

end
-- ==== Proof.Run.lean ====
/-
  The run of the whole program: the pipeline brings the two small inputs, the body runs once, and the final memory
  holds the arguments as they were and the result as the trips sent it.
-/
module

public import proofs.«01_k».proof.Proof.Launch

@[expose] public section

set_option maxRecDepth 16384

noncomputable section

namespace Cert.Proof.Stencil

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Run
variable (m : (ℓ : Loc nD τ sig) → Buf (Elt F) ℓ) (ρ : Dev nD → PrngReg)

/-- The target and the result as the launch finds them. -/
abbrev XTof (c : Dev nD) : Buf (Elt F) (tgtM.view.loc (c : Thread nD τ)) := V m c main_v0
abbrev XOof (c : Dev nD) : Buf (Elt F) (resM.view.loc (c : Thread nD τ)) := V m c main_v11
/-- The one grid point. -/
abbrev pt : Fin cfg0.N := t0_0
/-- The staging buffer of the three scalars, holding them. -/
abbrev gOf (c : Dev nD) (t : Fin cfg0.N) : Buf (Elt F) ((st0_1 t).view.loc (c : Thread nD τ)) := (st0_1 t).view.rep (iblk m c 1 t)
/-- The three scalars the body reads. -/
def wAt (c : Dev nD) : Elt F .f32 := wOf c (st0_1 pt) (gOf m c pt)
def wtAt (c : Dev nD) : Elt F .f32 := wtOf c (st0_1 pt) (gOf m c pt)
def sAt (c : Dev nD) : Elt F .f32 := sOf c (st0_1 pt) (gOf m c pt)

/-- The result's blocks before the body and after it. -/
def resAt (c : Dev nD) (n : ℕ) : sProp 𝕄 :=
  if n = 0 then bigSep (Ring.rangeSet 16 0 16) (fun b => resHas c b (XOof m c))
  else bigSep (Ring.rangeSet 16 0 16) (resDone c (XTof m c) (XOof m c) (wAt m c) (wtAt m c) (sAt m c))
/-- What the body is handed beside its staging buffers, and what it hands back. -/
def Φ (c : Dev nD) (n : ℕ) : sProp 𝕄 := iprop(bigSep (Ring.rangeSet 16 0 16) (inHome c (XTof m c)) ∗ slotsFree c ∗ resAt m c n)

/-- The pipeline's record: each window's array as the launch finds it, the staged block left as brought. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
  Φ t := Φ m c t.val
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]

/-! ## The body's part -/

theorem defs_tc : (defs₀ (F := F)) .tc cfg0.body = fun a => bodyProg (win0_0.stage (a.2 0)) (hstage0_0 0) (win0_1.stage (a.2 1)) (hstage0_1 0) := rfl
theorem prog_eq (t : Fin cfg0.N) : (defs₀ (F := F)) .tc cfg0.body (cfg0.bodyArgs t (cfg0.slots t)) = bodyProg (st0_0 t) (hstage0_0 0) (st0_1 t) (hstage0_1 0) :=
  (congrFun defs_tc _).trans rfl

theorem Φ_start (c : Dev nD) (t : Fin cfg0.N) : (dats m 0 c).Φ t.castSucc = iprop(bigSep (Ring.rangeSet 16 0 16) (inHome c (XTof m c)) ∗ slotsFree c ∗ bigSep (Ring.rangeSet 16 0 16) (fun b => resHas c b (XOof m c))) := by
  rw [fin_N0 t]; rfl
theorem Φ_end (c : Dev nD) (t : Fin cfg0.N) : (dats m 0 c).Φ t.succ = iprop(bigSep (Ring.rangeSet 16 0 16) (inHome c (XTof m c)) ∗ slotsFree c
    ∗ bigSep (Ring.rangeSet 16 0 16) (resDone c (XTof m c) (XOof m c) (wAt m c) (wtAt m c) (sAt m c))) := by
  rw [fin_N0 t]; rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, after_w0, after_w1]
  rw [Φ_start, Φ_end]
  unfold Dat.owesAt Pipeline.owesWithin
  rw [show (dats m 0 c).owed t.castSucc = 0 from rfl, show (dats m 0 c).owed t.succ = 0 from rfl]
  unfold owns
  obtain rfl : t = pt := fin_N0 t
  iintro ⟨⟨HB, HS, HR⟩, ⟨%W, -, HW⟩, ⟨%d0, %g0, %hg0, H0⟩, ⟨%d1, %g1, %hg1, H1⟩⟩
  ihave H1' := (pointsTo_rep_entails (c : Thread nD τ) (st0_1 pt) g1 fullShare) $$ H1
  rw [hg1]
  ihave HB' := (entails_of_eq (homes_two c (XTof m c))) $$ HB
  sl_rw [prog_eq pt]
  iapply (bodyRun c (XTof m c) (XOof m c) (st0_0 pt) (hstage0_0 0) (st0_1 pt) (hstage0_1 0) (gOf m c pt))
  isplitl [H1' HB' HS HR HW]
  · isplitl [H1']; · iexact H1'
    isplitl [HB']; · iexact HB'
    isplitl [HS]; · iexact HS
    isplitl [HR]; · iexact HR
    iexists W; iexact HW
  · iintro ⟨H1, HB, HS, HR, ⟨%W', HW⟩⟩
    isplitl [HB HS HR]
    · isplitl [HB]; · iexact HB
      isplitl [HS]; · iexact HS
      iexact HR
    isplitl [HW]
    · iexists W'; isplitr; · ipureintro; exact fun _ _ => Or.inl trivial
      iexact HW
    isplitl [H0]
    · iexists g0; isplitr; · ipureintro; exact hg0
      iexact H0
    iexists _; isplitr; · ipureintro; exact View.read_rep _ _
    iexact H1

/-! ## The run -/

def intoΦ (c : Dev nD) : sProp 𝕄 := iprop((((c : Thread nD τ).loc main_v0) ↦{fullShare} V m c main_v0) ∗ (((c : Thread nD τ).loc main_v11) ↦{fullShare} V m c main_v11) ∗ Pipeline.ownSems0 osem c)
def outOfΦ (c : Dev nD) : sProp 𝕄 := ((c : Thread nD τ).loc main_v11) ↦{fullShare} resAll c (XTof m c) (wAt m c) (wtAt m c) (sAt m c)
def aside (c : Dev nD) : sProp 𝕄 := iprop((((c : Thread nD τ).loc main_arg0) ↦{fullShare} V m c main_arg0) ∗ (((c : Thread nD τ).loc main_arg2) ↦{fullShare} V m c main_arg2))
def u₀ : UU nD τ := (initOf (Pipeline.cells cfgs cellOf_inj) (Pipeline.launchToks cfgs cellOf_inj), 1)
/-- What holds of the arrays no window stages: the arguments as they were, the result as sent. -/
def QY (c : Dev nD) (s : MemSt nD τ sig (Elt F)) : Prop :=
  s.mem ((c : Thread nD τ).loc main_arg0) = V m c main_arg0 ∧ s.mem ((c : Thread nD τ).loc main_arg2) = V m c main_arg2
    ∧ s.mem ((c : Thread nD τ).loc main_v11) = resAll c (XTof m c) (wAt m c) (wtAt m c) (sAt m c)
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

set_option maxHeartbeats 800000 in
theorem hmainUU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- From any memory with zero counters every fair execution ends, with the arrays as `QC` says and every counter zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainUU m)
    (hA := fun _ _ => rfl)
    (X := intoΦ m) (Y := outOfΦ m) (Z := aside m)
    (hX := fun c => by
      rw [unscopedRest0_eq]
      unfold intoΦ aside
      iintro ⟨⟨A0, A2, T, -, -, -, -, -, -, -, -, -, -, -, R⟩, HS, -, -, -⟩
      imodintro
      isplitl [T R HS]
      · isplitl [T]; · iexact T
        isplitl [R]; · iexact R
        iexact HS
      isplitl [A0]; · iexact A0
      iexact A2)
    (hin := fun c => by
      rw [show (dats m 0 c).Φ 0 = Φ m c 0 from rfl]
      unfold intoΦ Φ resAt; rw [if_pos rfl, tgt_eq, res_eq]
      iintro ⟨⟨T, R, HS⟩, Hb⟩
      isplitl [T]; · iexact T
      isplitl [HS Hb]
      · iapply (slots_split c)
        isplitl [HS]; · iexact HS
        iexact Hb
      iexact R)
    (hout := fun c => by
      rw [show (dats m 0 c).Φ (Fin.last cfg0.N) = Φ m c 1 from rfl]
      unfold outOfΦ Φ resAt; rw [if_neg (by decide), ← done_eq]
      iintro ⟨-, HS, HR⟩
      isplitl [HR]; · iexact HR
      iapply (slots_join c)
      iexact HS)
    (QY := QY m)
    (hY := fun c s' => by
      unfold outOfΦ aside
      iintro ⟨HR, ⟨H0, H2⟩, HSI⟩
      icombine HSI H0 gives %h0
      icombine HSI H2 gives %h2
      icombine HSI HR gives %hR
      imodintro
      isplitr; · ipureintro; exact ⟨Buf.eq_of_forall_mem_univ h0, Buf.eq_of_forall_mem_univ h2, Buf.eq_of_forall_mem_univ hR⟩
      iexact HSI)
    (hQ := fun _ hh hz => ⟨hh, hz⟩)

/-- The same in the arguments: they are unchanged, the result is as sent, the counters are zero. -/
theorem run_args : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v11) = resAll c (XTof m c) (wAt m c) (wtAt m c) (sAt m c)) ∧ r.2.sem = fun _ => 0) :=
  (θ_run defs _ _).mono (fun _ h => ⟨fun c => ⟨⟨(h.1 c).2.1.trans (V_main_arg0 m c),
      ((h.1 c).1 0).trans (((dats m 0 c).arrAt_in 0 rfl _).trans (V_main_arg1 m c)), (h.1 c).2.2.1.trans (V_main_arg2 m c)⟩, (h.1 c).2.2.2⟩, h.2⟩) (run_main m ρ)

end Run

end Cert.Proof.Stencil

end
-- ==== Proof.Frames.lean ====
/-
  The three frames: every run ends, leaves the arguments as they were and every semaphore at zero. The idealized
  program's is the run's; the printed program has the same text, so its statement is the same; the reference's is its
  host operations' run.
-/
module

public import proofs.«01_k».proof.Defs
public import proofs.«01_k».proof.Proof.Gen.Kernel
public import proofs.«01_k».proof.Proof.Run
public import proofs.«01_k».proof.Proof.Gen.ReferenceIdeal.Run
public import Idealize.ShloMosaic.Lib.Tactic.ProgEq

@[expose] public section

set_option maxRecDepth 16384

noncomputable section

namespace Cert.Proof

open Idealize.ShloMosaic Idealize.ShloMosaic.TcCoe
open Idealize.SL Idealize.SL.Sem

/-- The idealized program's frame. -/
theorem frame_ideal : Cert.quiescent_KernelIdeal := fun m ρ _ =>
  (θ_run Cert.KernelIdeal.defs _ _).mono (fun _ h => ⟨fun c => (h.1 c).1, h.2⟩) (Stencil.run_args (F := _) m ρ)

/-- The idealized program's frame, at the bits. -/
def FrameI : Prop := ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)
/-- The program's frame, at the bits. -/
def FrameP : Prop := ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

/-- The two are one statement: the two programs have one text. -/
theorem same : FrameI = FrameP := by sl_kernel_rfl

/-- The printed program's frame. -/
theorem frame_kernel : Cert.quiescent_Kernel := fun m ρ _ =>
  same.mp (fun m g => (θ_run Cert.KernelIdeal.defs _ _).mono (fun _ h => ⟨fun c => (h.1 c).1, h.2⟩) (Stencil.run_args m g)) m ρ

/-- The reference's frame: its host operations touch no semaphore. -/
theorem frame_reference : Cert.quiescent_ReferenceIdeal := fun m ρ _ =>
  (θ_run Cert.ReferenceIdeal.defs _ _).mono (fun _ h => ⟨fun c => (h c).2, funext fun x => nomatch x.2⟩) (Cert.ReferenceIdeal.Value.run m ρ)

end Cert.Proof

end
-- ==== Proof.Params.lean ====
/-
  What the host hands the kernel: the target as a 2048 × 2048 array, and three scalars — the weight of a neighbour, the
  weight of a pixel's own class and the sum of the nine weights.
-/
module

public import proofs.«01_k».proof.Proof.Run
public import Idealize.ShloMosaic.Lib.StableHlo.Run

@[expose] public section

set_option maxRecDepth 16384

noncomputable section

namespace Cert.Proof.Stencil

open Cert.KernelIdeal Cert.KernelIdeal.Gen
open Idealize.ShloMosaic Idealize.ShloMosaic.StableHlo
open Idealize.ShloMosaic.TcCoe Idealize.ShloMosaic.Tactic

variable {F : FTy → Type} [FloatOps F]

section Params
variable (m : (ℓ : Loc nD τ sig) → Buf (Elt F) ℓ) (c : Dev nD)

/-- The one index of a scalar. -/
abbrev nil : S_.Idx := fun a => a.elim0

/-- The sum of the first nine weights. -/
def total (f : S11x1x3x3.Idx → Elt F .f32) : S_.Idx → Elt F .f32 :=
  Host.reduceAdd (shapeCast S3x3 (extractStridedSlice S1x1x3x3 ![0, 0, 0, 0] f slices_S11x1x3x3_S1x1x3x3_0_0_0_0) shapeCasts_S1x1x3x3_S3x3)
    (constant S_ .f32 0x00000000#32) reducesTo_S3x3_S_d0_1 h_S_

/-- The target as the kernel is handed it. -/
theorem XTof_eq : XTof m c = shapeCast S2048x2048 (m ((c : Thread nD τ).loc main_arg0)) shapeCasts_S1x2048x2048_S2048x2048 := by
  unfold XTof V
  simp only [hostOps0]
  after_results_simp
  try dsimp only [Matrix.cons_val]
  rfl

/-- The three scalars as the kernel is handed them. -/
theorem params_eq : V m c main_v10 = (concatenate S3 0 [⟨S1, broadcastInDim S1 ![] bcast_S_S1 (shapeCast S_ (extractStridedSlice S1x1 ![0, 1]
      (shapeCast S3x3 (extractStridedSlice S1x1x3x3 ![0, 0, 0, 0] (m ((c : Thread nD τ).loc main_arg2)) slices_S11x1x3x3_S1x1x3x3_0_0_0_0) shapeCasts_S1x1x3x3_S3x3) slices_S3x3_S1x1_0_1) shapeCasts_S1x1_S_)⟩,
    ⟨S1, broadcastInDim S1 ![] bcast_S_S1 (mulf (total (m ((c : Thread nD τ).loc main_arg2))) (constant S_ .f32 0x3F900000#32))⟩,
    ⟨S1, broadcastInDim S1 ![] bcast_S_S1 (total (m ((c : Thread nD τ).loc main_arg2)))⟩] concatenates_S1_S1_S1_S3_d0 : S3.Idx → Elt F .f32) := by
  unfold V
  simp only [hostOps0]
  after_results_simp
  try dsimp only [Matrix.cons_val]
  try after_results_simp
  try dsimp only [Matrix.cons_val]
  try after_results_simp
  rfl

/-- The three scalars the body works with are those three. -/
theorem wAt_get : wAt m c = (V m c main_v10 : S3.Idx → Elt F .f32) (ix1 (0 : Fin 3)) := by
  unfold wAt wOf gOf
  rw [View.readAt_rep]
  exact congrArg (V m c main_v10 : S3.Idx → Elt F .f32) (funext fun a => Fin.ext (by match a with | ⟨0, _⟩ => rfl))
theorem wtAt_get : wtAt m c = (V m c main_v10 : S3.Idx → Elt F .f32) (ix1 (1 : Fin 3)) := by
  unfold wtAt wtOf gOf
  rw [View.readAt_rep]
  exact congrArg (V m c main_v10 : S3.Idx → Elt F .f32) (funext fun a => Fin.ext (by match a with | ⟨0, _⟩ => rfl))
theorem sAt_get : sAt m c = (V m c main_v10 : S3.Idx → Elt F .f32) (ix1 (2 : Fin 3)) := by
  unfold sAt sOf gOf
  rw [View.readAt_rep]
  exact congrArg (V m c main_v10 : S3.Idx → Elt F .f32) (funext fun a => Fin.ext (by match a with | ⟨0, _⟩ => rfl))

/-- A scalar laid in one of three places is read back there. -/
theorem three_get (x : Fin 3 → S1.Idx → Elt F .f32) (k : Fin 3) :
    (concatenate S3 0 [⟨S1, x 0⟩, ⟨S1, x 1⟩, ⟨S1, x 2⟩] concatenates_S1_S1_S1_S3_d0) (ix1 k) = x k (ix1 (0 : Fin 1)) := by
  refine concatenate_apply_piece (t := S3) 0 [⟨S1, x 0⟩, ⟨S1, x 1⟩, ⟨S1, x 2⟩] _ (ix1 k) k.val k.isLt S1 (x k) ?_ rfl k.val ?_ (ix1 (0 : Fin 1)) (fun b hb => ?_) rfl
  · match k with | 0 | 1 | 2 => rfl
  · match k with | 0 | 1 | 2 => rfl
  · match b with | ⟨0, _⟩ => exact absurd rfl hb

/-- The weight of a neighbour is the first kernel's second entry, -/
theorem wAt_eq : wAt m c = (m ((c : Thread nD τ).loc main_arg2) : S11x1x3x3.Idx → Elt F .f32) (ix4 (0 : Fin 11) (0 : Fin 1) (0 : Fin 3) (1 : Fin 3)) := by
  rw [wAt_get, params_eq]
  refine (three_get (F := F) ![_, _, _] 0).trans ?_
  show (shapeCast S_ (extractStridedSlice S1x1 ![0, 1] (shapeCast S3x3 (extractStridedSlice S1x1x3x3 ![0, 0, 0, 0]
    (m ((c : Thread nD τ).loc main_arg2)) slices_S11x1x3x3_S1x1x3x3_0_0_0_0) shapeCasts_S1x1x3x3_S3x3) slices_S3x3_S1x1_0_1) shapeCasts_S1x1_S_) _ = _
  simp only [pointwise]

/-- that of the pixel's own class nine eighths of the nine weights' sum, -/
theorem wtAt_eq : wtAt m c = mulf (total (m ((c : Thread nD τ).loc main_arg2))) (constant S_ .f32 0x3F900000#32) nil := by
  rw [wtAt_get, params_eq]
  refine (three_get (F := F) ![_, _, _] 1).trans ?_
  exact congrArg (mulf (total (m ((c : Thread nD τ).loc main_arg2))) (constant S_ .f32 0x3F900000#32)) (funext fun a => a.elim0)

/-- and the third scalar the sum itself. -/
theorem sAt_eq : sAt m c = total (m ((c : Thread nD τ).loc main_arg2)) nil := by
  rw [sAt_get, params_eq]
  refine (three_get (F := F) ![_, _, _] 2).trans ?_
  exact congrArg (total (m ((c : Thread nD τ).loc main_arg2))) (funext fun a => a.elim0)

/-- The target, index by index. -/
theorem words_at (j : S2048x2048.Idx) : words c (XTof m c) j
    = (m ((c : Thread nD τ).loc main_arg0) : S1x2048x2048.Idx → BitVec 32) (ix3 (0 : Fin 1) (j 0) (j 1)) := by
  rw [XTof_eq]
  show (shapeCast S2048x2048 (m ((c : Thread nD τ).loc main_arg0)) shapeCasts_S1x2048x2048_S2048x2048) _ = _
  refine (shapeCast_dropUnit_apply _ _ _ _).trans ?_
  refine congrArg (m ((c : Thread nD τ).loc main_arg0)) (funext fun a => Fin.ext ?_)
  match a with
  | ⟨0, _⟩ => rfl
  | ⟨1, _⟩ => rfl
  | ⟨2, _⟩ => rfl

end Params

end Cert.Proof.Stencil

end
-- ==== Proof.Count.lean ====
/-
  Counting classes in a packed word. Eleven classes are kept in two 32-bit words of nibbles: a class adds a one to its
  own nibble of its own word, a pixel's four neighbours add one each and the pixel itself adds eight. No nibble
  overflows, so each can be read back alone: it holds the number of neighbours of that class, and eight more where
  the pixel is of that class.
-/
module

public import proofs.«01_k».proof.Proof.Names
public import Idealize.ShloMosaic.PureOps
public import Mathlib.Tactic.Ring

@[expose] public section

noncomputable section

namespace Cert.Proof.Stencil

/-- The code by which the target names class `k`. -/
def code : Fin 11 → BitVec 32 := ![10#32, 20#32, 30#32, 40#32, 50#32, 60#32, 70#32, 80#32, 90#32, 95#32, 100#32]

/-- Whether class `k` is kept in the first of the two words. -/
def inFirst : Fin 11 → Bool := ![true, true, true, true, false, false, false, false, false, true, false]

/-- Which nibble of its word class `k` is kept in. -/
def place : Fin 11 → Fin 6 := ![1, 2, 3, 4, 0, 1, 2, 3, 4, 0, 5]

/-- One if class `k` is kept in nibble `p` of word `b`, else zero. -/
def mark (b : Bool) (p : Fin 6) (k : Fin 11) : ℕ := if inFirst k = b ∧ place k = p then 1 else 0

/-- What class `k` adds to word `b`. -/
def bits (b : Bool) (k : Fin 11) : ℕ := if inFirst k = b then 16 ^ (place k).val else 0

/-- What a class adds, nibble by nibble. -/
theorem bits_eq (b : Bool) (k : Fin 11) :
    bits b k = mark b 0 k + 16 * mark b 1 k + 256 * mark b 2 k + 4096 * mark b 3 k + 65536 * mark b 4 k + 1048576 * mark b 5 k := by
  revert b k; decide

/-- A class marks no nibble twice. -/
theorem mark_le (b : Bool) (p : Fin 6) (k : Fin 11) : mark b p k ≤ 1 := by
  unfold mark; split_ifs <;> decide

/-- The nibble of class `k` is marked by class `k` and by no other. -/
theorem mark_own (k k' : Fin 11) : mark (inFirst k) (place k) k' = if k' = k then 1 else 0 := by
  revert k k'; decide

variable (u d l r m : Fin 11)

/-- How many of the four classes `u d l r` are `k`. -/
def near (k : Fin 11) : ℕ := ((if u = k then 1 else 0) + (if d = k then 1 else 0)) + ((if l = k then 1 else 0) + (if r = k then 1 else 0))

/-- Nibble `p` of word `b`: one for each of the four neighbours marking it, eight for the pixel. -/
def nibble (b : Bool) (p : Fin 6) : ℕ := (mark b p u + mark b p d) + (mark b p l + mark b p r) + 8 * mark b p m

/-- Word `b` as it is added up: the neighbours' bits, and the pixel's own three places up. -/
def packed (b : Bool) : BitVec 32 :=
  (BitVec.ofNat 32 (bits b u) + BitVec.ofNat 32 (bits b d)) + (BitVec.ofNat 32 (bits b l) + BitVec.ofNat 32 (bits b r))
    + BitVec.ofNat 32 (bits b m) <<< 3

/-- A nibble is at most twelve. -/
theorem nibble_le (b : Bool) (p : Fin 6) : nibble u d l r m b p ≤ 12 := by
  unfold nibble
  have := mark_le b p u; have := mark_le b p d; have := mark_le b p l; have := mark_le b p r; have := mark_le b p m
  omega

/-- What a class adds to a word is small. -/
theorem bits_le (b : Bool) (k : Fin 11) : bits b k ≤ 1048576 := by
  revert b k; decide

/-- The packed word as a number: its nibbles side by side. -/
theorem toNat_packed (b : Bool) : (packed u d l r m b).toNat
    = nibble u d l r m b 0 + 16 * nibble u d l r m b 1 + 256 * nibble u d l r m b 2 + 4096 * nibble u d l r m b 3
      + 65536 * nibble u d l r m b 4 + 1048576 * nibble u d l r m b 5 := by
  have hs : (packed u d l r m b).toNat = (bits b u + bits b d) + (bits b l + bits b r) + 8 * bits b m := by
    have h1 := bits_le b u; have h2 := bits_le b d; have h3 := bits_le b l; have h4 := bits_le b r; have h5 := bits_le b m
    have e : BitVec.ofNat 32 (bits b m) <<< 3 = BitVec.ofNat 32 (8 * bits b m) := by
      apply BitVec.eq_of_toNat_eq
      rw [BitVec.toNat_shiftLeft, BitVec.toNat_ofNat, BitVec.toNat_ofNat, Nat.shiftLeft_eq]
      generalize bits b m = t at *
      omega
    unfold packed
    rw [e, ← BitVec.ofNat_add, ← BitVec.ofNat_add, ← BitVec.ofNat_add, ← BitVec.ofNat_add, BitVec.toNat_ofNat]
    refine Nat.mod_eq_of_lt ?_
    generalize bits b u = t1 at *; generalize bits b d = t2 at *; generalize bits b l = t3 at *
    generalize bits b r = t4 at *; generalize bits b m = t5 at *
    omega
  rw [hs]
  simp only [bits_eq, nibble]
  ring

/-- A digit of a number written with room for it: what lies below drops out. -/
theorem cut {lo B : ℕ} (h : lo < B) (t : ℕ) : (lo + B * t) / B = t := by
  rw [Nat.add_mul_div_left _ _ (by omega), Nat.div_eq_of_lt h, zero_add]

/-- The packed word shifted down to nibble `p`: that nibble, and above it multiples of sixteen. -/
theorem packed_shift (b : Bool) (p : Fin 6) :
    ∃ hi, (packed u d l r m b >>> (4 * p.val)).toNat = nibble u d l r m b p + 16 * hi := by
  have h0 := nibble_le u d l r m b 0; have h1 := nibble_le u d l r m b 1; have h2 := nibble_le u d l r m b 2
  have h3 := nibble_le u d l r m b 3; have h4 := nibble_le u d l r m b 4
  rw [BitVec.toNat_ushiftRight, Nat.shiftRight_eq_div_pow, toNat_packed]
  generalize nibble u d l r m b = t at *
  match p with
  | 0 => exact ⟨t 1 + 16 * t 2 + 256 * t 3 + 4096 * t 4 + 65536 * t 5, by
      show _ / 1 = _
      rw [Nat.div_one]; ring⟩
  | 1 => exact ⟨t 2 + 16 * t 3 + 256 * t 4 + 4096 * t 5, by
      refine Eq.trans ?_ (cut (lo := t 0) (B := 16) (by omega) _)
      show _ / 16 = _
      congr 1; ring⟩
  | 2 => exact ⟨t 3 + 16 * t 4 + 256 * t 5, by
      refine Eq.trans ?_ (cut (lo := t 0 + 16 * t 1) (B := 256) (by omega) _)
      show _ / 256 = _
      congr 1; ring⟩
  | 3 => exact ⟨t 4 + 16 * t 5, by
      refine Eq.trans ?_ (cut (lo := t 0 + 16 * t 1 + 256 * t 2) (B := 4096) (by omega) _)
      show _ / 4096 = _
      congr 1; ring⟩
  | 4 => exact ⟨t 5, by
      refine Eq.trans ?_ (cut (lo := t 0 + 16 * t 1 + 256 * t 2 + 4096 * t 3) (B := 65536) (by omega) _)
      show _ / 65536 = _
      congr 1; ring⟩
  | 5 => exact ⟨0, by
      refine Eq.trans ?_ (cut (lo := t 0 + 16 * t 1 + 256 * t 2 + 4096 * t 3 + 65536 * t 4) (B := 1048576) (by omega) _)
      show _ / 1048576 = _
      congr 1⟩

/-- A nibble cut out of the packed word. -/
theorem packed_field (b : Bool) (p : Fin 6) :
    (packed u d l r m b >>> (4 * p.val)) &&& 15#32 = BitVec.ofNat 32 (nibble u d l r m b p) := by
  have h := nibble_le u d l r m b p
  obtain ⟨hi, e⟩ := packed_shift u d l r m b p
  apply BitVec.eq_of_toNat_eq
  have e15 : (15#32).toNat = 2 ^ 4 - 1 := rfl
  rw [BitVec.toNat_and, e15, Nat.and_two_pow_sub_one_eq_mod, e, BitVec.toNat_ofNat]
  generalize nibble u d l r m b p = t at *
  omega

/-- The low three bits of a nibble cut out of the packed word. -/
theorem packed_low (b : Bool) (p : Fin 6) :
    (packed u d l r m b >>> (4 * p.val)) &&& 7#32 = BitVec.ofNat 32 (nibble u d l r m b p % 8) := by
  have h := nibble_le u d l r m b p
  obtain ⟨hi, e⟩ := packed_shift u d l r m b p
  apply BitVec.eq_of_toNat_eq
  have e7 : (7#32).toNat = 2 ^ 3 - 1 := rfl
  rw [BitVec.toNat_and, e7, Nat.and_two_pow_sub_one_eq_mod, e, BitVec.toNat_ofNat]
  generalize nibble u d l r m b p = t at *
  omega

/-- The topmost nibble in use needs no mask: nothing lies above nibble 4 of the first word, -/
theorem packed_top_first : packed u d l r m true >>> 16 = BitVec.ofNat 32 (nibble u d l r m true 4) := by
  have h0 := nibble_le u d l r m true 0; have h1 := nibble_le u d l r m true 1; have h2 := nibble_le u d l r m true 2
  have h3 := nibble_le u d l r m true 3; have h4 := nibble_le u d l r m true 4
  have h5 : nibble u d l r m true 5 = 0 := by
    have h : ∀ k : Fin 11, mark true 5 k = 0 := by decide
    simp only [nibble, h]
  apply BitVec.eq_of_toNat_eq
  rw [BitVec.toNat_ushiftRight, Nat.shiftRight_eq_div_pow, toNat_packed, BitVec.toNat_ofNat, h5]
  generalize nibble u d l r m true = t at *
  rw [Nat.mod_eq_of_lt (a := t 4) (by omega)]
  exact cut (lo := t 0 + 16 * t 1 + 256 * t 2 + 4096 * t 3) (B := 65536) (by omega) _

/-- and nothing above nibble 5 of the second. -/
theorem packed_top_second : packed u d l r m false >>> 20 = BitVec.ofNat 32 (nibble u d l r m false 5) := by
  have h0 := nibble_le u d l r m false 0; have h1 := nibble_le u d l r m false 1; have h2 := nibble_le u d l r m false 2
  have h3 := nibble_le u d l r m false 3; have h4 := nibble_le u d l r m false 4; have h5 := nibble_le u d l r m false 5
  apply BitVec.eq_of_toNat_eq
  rw [BitVec.toNat_ushiftRight, Nat.shiftRight_eq_div_pow, toNat_packed, BitVec.toNat_ofNat]
  generalize nibble u d l r m false = t at *
  rw [Nat.mod_eq_of_lt (a := t 5) (by omega)]
  exact cut (lo := t 0 + 16 * t 1 + 256 * t 2 + 4096 * t 3 + 65536 * t 4) (B := 1048576) (by omega) _

/-- The nibble of class `k` is the count of its neighbours, and eight more at a pixel of class `k`. -/
theorem nibble_own (k : Fin 11) : nibble u d l r m (inFirst k) (place k) = near u d l r k + if m = k then 8 else 0 := by
  simp only [nibble, mark_own, near]
  split_ifs <;> rfl

/-- At most four neighbours are of one class. -/
theorem near_le (k : Fin 11) : near u d l r k ≤ 4 := by
  unfold near; split_ifs <;> omega

/-- The low three bits of the nibble of the pixel's own class are the count of its neighbours of that class. -/
theorem nibble_low : nibble u d l r m (inFirst m) (place m) % 8 = near u d l r m := by
  rw [nibble_own, if_pos rfl]
  have := near_le u d l r m
  omega

end Cert.Proof.Stencil

end
-- ==== Proof.Pre.lean ====
/-
  What the precondition says of the arguments: the target holds class codes, the classes are those codes in order, each
  kernel is the same cross of four equal weights around a zero, and four and a half times the weight is no smaller than
  the floor of the division.
-/
module

public import proofs.«01_k».proof.Defs
public import proofs.«01_k».proof.Proof.Gen.Pre_cross_of_class_codes
public import proofs.«01_k».proof.Proof.Count
public import Idealize.ShloMosaic.Lib.Pointwise

@[expose] public section

noncomputable section

namespace Cert.Proof.Stencil

open Cert.Pre_cross_of_class_codes
open Idealize.ShloMosaic

/-- What the precondition says, in plain terms. -/
structure Decoded (T : S1x2048x2048.Idx → BitVec 32) (C : S11.Idx → BitVec 32) (W : S11x1x3x3.Idx → EReal) : Prop where
  /-- Each pixel of the target holds a class's code. -/
  target : ∀ i, ∃ k, T i = code k
  /-- The classes are listed by their codes. -/
  classes : ∀ k : Fin 11, C (ix1 k) = code k
  /-- Each class's kernel is the cross of the first one's weight. -/
  cross : ∀ (k : Fin 11) (i j : Fin 3), W (ix4 k (0 : Fin 1) i j)
    = if (i.val + j.val) % 2 = 1 then W (ix4 (0 : Fin 11) (0 : Fin 1) (0 : Fin 3) (1 : Fin 3)) else 0
  /-- The weight is not too small. -/
  floor : Ideal.ofBits .f32 0x33D6BF95#32 ≤ W (ix4 (0 : Fin 11) (0 : Fin 1) (0 : Fin 3) (1 : Fin 3)) * Ideal.ofBits .f32 0x40900000#32

/-- A word that is one of the eleven codes. -/
theorem code_of (v : BitVec 32) (h : v = 10#32 ∨ v = 20#32 ∨ v = 30#32 ∨ v = 40#32 ∨ v = 50#32 ∨ v = 60#32 ∨ v = 70#32 ∨ v = 80#32 ∨ v = 90#32 ∨ v = 95#32 ∨ v = 100#32) :
    ∃ k, v = code k := by
  rcases h with h | h | h | h | h | h | h | h | h | h | h
  · exact ⟨0, h⟩
  · exact ⟨1, h⟩
  · exact ⟨2, h⟩
  · exact ⟨3, h⟩
  · exact ⟨4, h⟩
  · exact ⟨5, h⟩
  · exact ⟨6, h⟩
  · exact ⟨7, h⟩
  · exact ⟨8, h⟩
  · exact ⟨9, h⟩
  · exact ⟨10, h⟩

/-- A bit made of a truth value is one where that value is true. -/
theorem bit_of (b : Bool) : (BitVec.ofBool b = 1#1) ↔ b = true := by cases b <;> decide

/-- The disjunction of two bits is one where either is. -/
theorem or_bit (a b : BitVec 1) : (a ||| b = 1#1) ↔ (a = 1#1 ∨ b = 1#1) := by revert a b; decide

variable [Cert.Pre_cross_of_class_codes.Facts]

/-- The four truth arrays, all of ones, say those four things. -/
theorem decode (T : S1x2048x2048.Idx → BitVec 32) (C : S11.Idx → BitVec 32) (W : S11x1x3x3.Idx → EReal)
    (h0 : (fn (F := Ideal) T C W).1 = fun _ => 1#1) (h1 : (fn (F := Ideal) T C W).2.1 = fun _ => 1#1)
    (h2 : (fn (F := Ideal) T C W).2.2.1 = fun _ => 1#1) (h3 : (fn (F := Ideal) T C W).2.2.2 = fun _ => 1#1) : Decoded T C W := by
  refine ⟨fun i => ?_, fun k => ?_, fun k i j => ?_, ?_⟩
  · have h := congrFun h0 i
    simp only [fn, fn_part1, fn_part2, pointwise] at h
    simp only [IntOp.ori, IntOp.cmpi, or_bit, bit_of, beq_iff_eq] at h
    refine code_of _ ?_
    simpa only [or_assoc] using h
  · have h := congrFun h1 (ix1 k)
    simp only [fn, fn_part1, fn_part2, pointwise] at h
    simp only [IntOp.cmpi, bit_of, beq_iff_eq] at h
    refine h.trans ?_
    clear h
    revert k; decide
  · have h := congrFun h2 (ix4 k (0 : Fin 1) i j)
    simp only [fn, fn_part1, fn_part2, fn_where, pointwise] at h
    rw [bit_of, decide_eq_true_iff] at h
    refine h.trans ?_
    clear h
    generalize W (ix4 0 0 0 1) = w
    match i, j with
    | 0, 0 | 0, 1 | 0, 2 | 1, 0 | 1, 1 | 1, 2 | 2, 0 | 2, 1 | 2, 2 => rfl
  · have h := congrFun h3 (fun a => a.elim0)
    simp only [fn, fn_part1, fn_part2, pointwise] at h
    rw [bit_of, decide_eq_true_iff] at h
    exact h

end Cert.Proof.Stencil

end
-- ==== Proof.Words.lean ====
/-
  The packed words of a pixel. Where the target holds class codes, what the kernel adds up at a pixel is the packed word
  of the classes of its four neighbours and of the pixel itself; over the edge of the image a neighbour is the pixel at
  the edge.
-/
module

public import proofs.«01_k».proof.Proof.Block
public import proofs.«01_k».proof.Proof.Count

@[expose] public section

noncomputable section

namespace Cert.Proof.Stencil

open Cert.KernelIdeal Cert.KernelIdeal.Gen
open Idealize.ShloMosaic
open Idealize.ShloMosaic.TcCoe Idealize.ShloMosaic.Tactic

variable {F : FTy → Type} [FloatOps F]

/-! ## One pixel's bits -/

section Bits
variable (k : Fin 11)

/-- The number the kernel gives class `k`: its nibble, counted through both words. -/
def digit : Fin 11 → BitVec 32 := ![1#32, 2#32, 3#32, 4#32, 5#32, 6#32, 7#32, 8#32, 9#32, 0#32, 10#32]

/-- The class number, from the code. -/
theorem digits_at (cur : Vec F S1x128x2048 .i32) (i : S128x2048.Idx) (h : k0_pay1 cur i = code k) : digits cur i = digit k := by
  simp only [digits, k0_pay5, k0_pay4, select, cmpi, shrui, muli, broadcast, h]
  clear h; revert k; decide

/-- The bits of the first word, from the code, -/
theorem encA_at (cur : Vec F S1x128x2048 .i32) (i : S128x2048.Idx) (h : k0_pay1 cur i = code k) : encA cur i = BitVec.ofNat 32 (bits true k) := by
  simp only [encA, k0_pay8, k0_pay7, k0_pay6, k0_pay5, k0_pay4, select, cmpi, shrui, shli, muli, broadcast, h]
  clear h; revert k; decide

/-- and of the second. -/
theorem encB_at (cur : Vec F S1x128x2048 .i32) (i : S128x2048.Idx) (h : k0_pay1 cur i = code k) : encB cur i = BitVec.ofNat 32 (bits false k) := by
  simp only [encB, k0_pay9, k0_pay7, k0_pay6, k0_pay5, k0_pay4, select, cmpi, shrui, shli, subi, maxsi, muli, broadcast, h]
  clear h; revert k; decide

/-- The same for the row above, first word -/
theorem upA_at (up : IVec S1x2048 32) (i : S1x2048.Idx) (h : up i = code k) :
    select (k0_pay11 up) (k0_pay14 up) (broadcast S1x2048 0#32) i = BitVec.ofNat 32 (bits true k) := by
  simp only [k0_pay14, k0_pay12, k0_pay11, k0_pay10, select, cmpi, shrui, shli, muli, broadcast, h]
  clear h; revert k; decide

/-- and second, -/
theorem upB_at (up : IVec S1x2048 32) (i : S1x2048.Idx) (h : up i = code k) :
    k0_pay15 (k0_pay11 up) (k0_pay13 up) i = BitVec.ofNat 32 (bits false k) := by
  simp only [k0_pay15, k0_pay13, k0_pay12, k0_pay11, k0_pay10, select, cmpi, shrui, shli, subi, maxsi, muli, broadcast, h]
  clear h; revert k; decide

/-- and for the row below, first word -/
theorem dnA_at (dn : IVec S1x2048 32) (i : S1x2048.Idx) (h : dn i = code k) :
    select (k0_pay17 dn) (shli (broadcast S1x2048 1#32) (k0_pay18 dn)) (broadcast S1x2048 0#32) i = BitVec.ofNat 32 (bits true k) := by
  simp only [k0_pay18, k0_pay17, k0_pay16, select, cmpi, shrui, shli, muli, broadcast, h]
  clear h; revert k; decide

/-- and second. -/
theorem dnB_at (dn : IVec S1x2048 32) (i : S1x2048.Idx) (h : dn i = code k) : k0_pay19 dn i = BitVec.ofNat 32 (bits false k) := by
  simp only [k0_pay19, k0_pay18, k0_pay17, k0_pay16, select, cmpi, shrui, shli, subi, maxsi, muli, broadcast, h]
  clear h; revert k; decide

end Bits

/-! ## The four neighbours -/

section Neighbours
variable (G : ℕ → ℕ → BitVec 32) (b : ℕ) (hb : b < 16) (E : IVec S128x2048 32) (top bot : IVec S1x2048 32)
  (hE : ∀ j, E j = G (128 * b + (j 0).val) (j 1).val) (ht : ∀ j, top j = G (128 * b - 1) (j 1).val)
  (hd : ∀ j, bot j = G (min (128 * b + 128) 2047) (j 1).val) (r : Fin 128) (x : Fin 2048)
include hE

include ht in
/-- The pixel above: a row up in the block, or in the row above the block. -/
theorem above_at : concatenate S128x2048 0 [⟨S1x2048, top⟩, ⟨S127x2048, extractStridedSlice S127x2048 ![0, 0] E slices_S128x2048_o0_0_S127x2048⟩]
    concatenates_S1x2048_S127x2048_S128x2048_d0 (ix2 r x) = G (128 * b + r.val - 1) x.val := by
  by_cases h : r.val = 0
  · refine (concatenate_pair_apply_left (t := S128x2048) (s₁ := S1x2048) (s₂ := S127x2048) 0 _ _ _ (ix2 r x) rfl (ix2 (0 : Fin 1) x) (fun a => ?_)).trans ?_
    · match a with
      | ⟨0, _⟩ => exact h.symm
      | ⟨1, _⟩ => rfl
    · rw [ht, h]; rfl
  · have hr := r.isLt
    refine (concatenate_pair_apply_right (t := S128x2048) (s₁ := S1x2048) (s₂ := S127x2048) 0 _ _ _ (ix2 r x) rfl rfl
      (ix2 (⟨r.val - 1, by omega⟩ : Fin 127) x) (fun a ha => ?_) ?_).trans ?_
    · match a with
      | ⟨0, _⟩ => exact absurd rfl ha
      | ⟨1, _⟩ => rfl
    · show r.val - 1 + 1 = r.val; omega
    · refine (hE _).trans ?_
      show G (128 * b + (0 + (r.val - 1))) (0 + x.val) = _
      congr 1 <;> omega

include hb hd in
/-- The pixel below: a row down in the block, or in the row below the block. -/
theorem below_at : concatenate S128x2048 0 [⟨S127x2048, extractStridedSlice S127x2048 ![1, 0] E slices_S128x2048_o1_0_S127x2048⟩, ⟨S1x2048, bot⟩]
    concatenates_S127x2048_S1x2048_S128x2048_d0 (ix2 r x) = G (min (128 * b + r.val + 1) 2047) x.val := by
  have hr := r.isLt
  by_cases h : r.val = 127
  · refine (concatenate_pair_apply_right (t := S128x2048) (s₁ := S127x2048) (s₂ := S1x2048) 0 _ _ _ (ix2 r x) rfl rfl
      (ix2 (0 : Fin 1) x) (fun a ha => ?_) ?_).trans ?_
    · match a with
      | ⟨0, _⟩ => exact absurd rfl ha
      | ⟨1, _⟩ => rfl
    · show 0 + 127 = r.val; omega
    · rw [hd, h]; rfl
  · refine (concatenate_pair_apply_left (t := S128x2048) (s₁ := S127x2048) (s₂ := S1x2048) 0 _ _ _ (ix2 r x) rfl
      (ix2 (⟨r.val, by omega⟩ : Fin 127) x) (fun a => ?_)).trans ?_
    · match a with
      | ⟨0, _⟩ => rfl
      | ⟨1, _⟩ => rfl
    · refine (hE _).trans ?_
      show G (128 * b + (1 + r.val)) (0 + x.val) = _
      congr 1 <;> omega

/-- The pixel to the left; at the left edge the pixel itself. -/
theorem left_at : concatenate S128x2048 1 [⟨S128x1, extractStridedSlice S128x1 ![0, 0] E slices_S128x2048_o0_0_S128x1⟩, ⟨S128x2047, extractStridedSlice S128x2047 ![0, 0] E slices_S128x2048_o0_0_S128x2047⟩]
    concatenates_S128x1_S128x2047_S128x2048_d1 (ix2 r x) = G (128 * b + r.val) (x.val - 1) := by
  have hx := x.isLt
  by_cases h : x.val = 0
  · refine (concatenate_pair_apply_left (t := S128x2048) (s₁ := S128x1) (s₂ := S128x2047) 1 _ _ _ (ix2 r x) rfl (ix2 r (0 : Fin 1)) (fun a => ?_)).trans ?_
    · match a with
      | ⟨0, _⟩ => rfl
      | ⟨1, _⟩ => exact h.symm
    · refine (hE _).trans ?_
      show G (128 * b + (0 + r.val)) (0 + 0) = _
      congr 1 <;> omega
  · refine (concatenate_pair_apply_right (t := S128x2048) (s₁ := S128x1) (s₂ := S128x2047) 1 _ _ _ (ix2 r x) rfl rfl
      (ix2 r (⟨x.val - 1, by omega⟩ : Fin 2047)) (fun a ha => ?_) ?_).trans ?_
    · match a with
      | ⟨0, _⟩ => rfl
      | ⟨1, _⟩ => exact absurd rfl ha
    · show x.val - 1 + 1 = x.val; omega
    · refine (hE _).trans ?_
      show G (128 * b + (0 + r.val)) (0 + (x.val - 1)) = _
      congr 1 <;> omega

/-- The pixel to the right; at the right edge the pixel itself. -/
theorem right_at : concatenate S128x2048 1 [⟨S128x2047, extractStridedSlice S128x2047 ![0, 1] E slices_S128x2048_o0_1_S128x2047⟩, ⟨S128x1, extractStridedSlice S128x1 ![0, 2047] E slices_S128x2048_o0_2047_S128x1⟩]
    concatenates_S128x2047_S128x1_S128x2048_d1 (ix2 r x) = G (128 * b + r.val) (min (x.val + 1) 2047) := by
  have hx := x.isLt
  by_cases h : x.val = 2047
  · refine (concatenate_pair_apply_right (t := S128x2048) (s₁ := S128x2047) (s₂ := S128x1) 1 _ _ _ (ix2 r x) rfl rfl
      (ix2 r (0 : Fin 1)) (fun a ha => ?_) ?_).trans ?_
    · match a with
      | ⟨0, _⟩ => rfl
      | ⟨1, _⟩ => exact absurd rfl ha
    · show 0 + 2047 = x.val; omega
    · refine (hE _).trans ?_
      show G (128 * b + (0 + r.val)) (2047 + 0) = _
      congr 1 <;> omega
  · refine (concatenate_pair_apply_left (t := S128x2048) (s₁ := S128x2047) (s₂ := S128x1) 1 _ _ _ (ix2 r x) rfl
      (ix2 r (⟨x.val, by omega⟩ : Fin 2047)) (fun a => ?_)).trans ?_
    · match a with
      | ⟨0, _⟩ => rfl
      | ⟨1, _⟩ => rfl
    · refine (hE _).trans ?_
      show G (128 * b + (0 + r.val)) (1 + x.val) = _
      congr 1 <;> omega

end Neighbours

/-! ## The packed words -/

section Sums
variable (K : ℕ → ℕ → Fin 11) (b : ℕ) (hb : b < 16) (cur : Vec F S1x128x2048 .i32) (up dn : IVec S1x2048 32)
  (hc : ∀ j, cur j = code (K (128 * b + (j 1).val) (j 2).val)) (hu : ∀ j, up j = code (K (128 * b - 1) (j 1).val))
  (hd : ∀ j, dn j = code (K (min (128 * b + 128) 2047) (j 1).val)) (r : Fin 128) (x : Fin 2048)

/-- The packed word of the classes around row `R`, column `x` of an image of classes. -/
def packedAt (K : ℕ → ℕ → Fin 11) (R x : ℕ) (w : Bool) : BitVec 32 :=
  packed (K (R - 1) x) (K (min (R + 1) 2047) x) (K R (x - 1)) (K R (min (x + 1) 2047)) (K R x) w

include hc in
theorem cur_at (j : S128x2048.Idx) : k0_pay1 cur j = code (K (128 * b + (j 0).val) (j 1).val) :=
  (shapeCast_dropUnit_apply _ _ _ _).trans (hc _)

include hb hc hu hd

/-- The first word the kernel adds up at a pixel. -/
theorem sumA_at : sumA cur up dn (ix2 r x) = packedAt K (128 * b + r.val) x.val true := by
  have hE : ∀ j, encA cur j = BitVec.ofNat 32 (bits true (K (128 * b + (j 0).val) (j 1).val)) := fun j => encA_at _ cur j (cur_at K b cur hc j)
  have ht := fun j => upA_at _ up j (hu j)
  have hd' := fun j => dnA_at _ dn j (hd j)
  let G : ℕ → ℕ → BitVec 32 := fun R y => BitVec.ofNat 32 (bits true (K R y))
  have h1 := above_at G b _ _ hE ht r x
  have h2 := below_at G b hb _ _ hE hd' r x
  have h3 := left_at G b _ hE r x
  have h4 := right_at G b _ hE r x
  have h5 := hE (ix2 r x)
  unfold sumA nbrA k0_pay22 k0_pay20 k0_pay21
  simp only [addi, shli, broadcast]
  rw [h1, h2, h3, h4, h5]
  rfl

/-- The second. -/
theorem sumB_at : sumB cur up dn (ix2 r x) = packedAt K (128 * b + r.val) x.val false := by
  have hE : ∀ j, encB cur j = BitVec.ofNat 32 (bits false (K (128 * b + (j 0).val) (j 1).val)) := fun j => encB_at _ cur j (cur_at K b cur hc j)
  have ht := fun j => upB_at _ up j (hu j)
  have hd' := fun j => dnB_at _ dn j (hd j)
  let G : ℕ → ℕ → BitVec 32 := fun R y => BitVec.ofNat 32 (bits false (K R y))
  have h1 := above_at G b _ _ hE ht r x
  have h2 := below_at G b hb _ _ hE hd' r x
  have h3 := left_at G b _ hE r x
  have h4 := right_at G b _ hE r x
  have h5 := hE (ix2 r x)
  unfold sumB k0_pay23
  simp only [addi, shli, broadcast]
  rw [h1, h2, h3, h4, h5]
  rfl

end Sums

end Cert.Proof.Stencil

end
-- ==== Proof.Pixel.lean ====
/-
  What the kernel stores at a pixel for a class, over the extended reals: the neighbour weight over what remains of the
  total, times the smaller of the class's count and the ratio of the two weights.
-/
module

public import proofs.«01_k».proof.Proof.Words
public import proofs.«01_k».proof.Proof.Launch

@[expose] public section

noncomputable section

namespace Cert.Proof.Stencil

open Cert.KernelIdeal Cert.KernelIdeal.Gen
open Idealize.ShloMosaic
open Idealize.ShloMosaic.TcCoe Idealize.ShloMosaic.Tactic

/-- A natural number as an extended real. -/
def num (n : ℕ) : EReal := ((n : ℝ) : EReal)

/-- The result at a pixel with neighbours `u d l r`, itself of class `m`, for class `k`, from the two weights and the
    sum of the kernel's nine. -/
def pixel (w wt s : EReal) (u d l r m k : Fin 11) : EReal :=
  w * Ideal.div 1 ((wt + s) - w * num (near u d l r m)) * min (num (near u d l r k + if m = k then 8 else 0)) (Ideal.div wt w)

/-- A small word read as a signed integer is the number it holds. -/
theorem word_num (n : ℕ) (h : n ≤ 12) : (FloatOps.sitofp .f32 (BitVec.ofNat 32 n) : Ideal .f32) = num n := by
  show (((BitVec.ofNat 32 n).toInt : ℝ) : EReal) = num n
  have e : (BitVec.ofNat 32 n).toInt = (n : ℤ) := by
    rw [BitVec.toInt_eq_toNat_of_lt (by rw [BitVec.toNat_ofNat]; omega), BitVec.toNat_ofNat, Nat.mod_eq_of_lt (by omega)]
  rw [e]; rfl

/-- The nibble of the pixel's own class is cut out of the word that holds it. -/
theorem own_cut (k : Fin 11) (A B : BitVec 32) :
    IntOp.andi (IntOp.shrui .vector (Scalar.select (IntOp.cmpi .slt (digit k) 5#32) A B)
      (Scalar.select (IntOp.cmpi .slt (digit k) 5#32) (IntOp.muli (digit k) 4#32) (IntOp.subi (IntOp.muli (digit k) 4#32) 20#32))) 7#32
    = ((if inFirst k then A else B) >>> (4 * (place k).val)) &&& 7#32 := by
  match k with
  | 0 | 1 | 2 | 3 | 4 | 5 | 6 | 7 | 8 | 9 | 10 => rfl

section Stored
variable (w wt s : EReal) (K : ℕ → ℕ → Fin 11) (b : ℕ) (hb : b < 16) (cur : Vec Ideal S1x128x2048 .i32) (up dn : IVec S1x2048 32)
  (hc : ∀ j, cur j = code (K (128 * b + (j 1).val) (j 2).val)) (hu : ∀ j, up j = code (K (128 * b - 1) (j 1).val))
  (hd : ∀ j, dn j = code (K (min (128 * b + 128) 2047) (j 1).val)) (r : Fin 128) (x : Fin 2048)

/-- The count of class `k` around row `R`, column `x`. -/
def nearAt (K : ℕ → ℕ → Fin 11) (R x : ℕ) (k : Fin 11) : ℕ :=
  near (K (R - 1) x) (K (min (R + 1) 2047) x) (K R (x - 1)) (K R (min (x + 1) 2047)) k

/-- The result there. -/
def pixelAt (K : ℕ → ℕ → Fin 11) (R x : ℕ) (k : Fin 11) : EReal :=
  pixel w wt s (K (R - 1) x) (K (min (R + 1) 2047) x) (K R (x - 1)) (K R (min (x + 1) 2047)) (K R x) k

/-- What the nibble of class `k` holds around row `R`, column `x`, as an extended real. -/
theorem cut_num (R x : ℕ) (k : Fin 11) (v : BitVec 32)
    (h : v = BitVec.ofNat 32 (nibble (K (R - 1) x) (K (min (R + 1) 2047) x) (K R (x - 1)) (K R (min (x + 1) 2047)) (K R x) (inFirst k) (place k))) :
    (FloatOps.sitofp .f32 v : Ideal .f32) = num (nearAt K R x k + if K R x = k then 8 else 0) := by
  rw [h, word_num _ (nibble_le _ _ _ _ _ _ _), nibble_own]; rfl

include hb hc hu hd

/-- The pixel's scale. -/
theorem scale_at : scale w wt s cur up dn (ix2 r x)
    = w * Ideal.div 1 ((wt + s) - w * num (nearAt K (128 * b + r.val) x.val (K (128 * b + r.val) x.val))) := by
  have hA := sumA_at K b hb cur up dn hc hu hd r x
  have hB := sumB_at K b hb cur up dn hc hu hd r x
  have hD := digits_at _ cur (ix2 r x) (cur_at K b cur hc (ix2 r x))
  unfold sumA at hA
  unfold sumB at hB
  change digits cur (ix2 r x) = digit (K (128 * b + r.val) x.val) at hD
  unfold scale k0_pay24
  show w * Ideal.div (Ideal.ofBits .f32 0x3F800000#32) ((wt + s) - w * (FloatOps.sitofp .f32
    (IntOp.andi (IntOp.shrui .vector
      (Scalar.select (IntOp.cmpi .slt (digits cur (ix2 r x)) 5#32) (k0_pay22 (nbrA cur up dn) (k0_pay21 (encA cur)) (ix2 r x))
        (k0_pay23 (encB cur) (k0_pay15 (k0_pay11 up) (k0_pay13 up)) (k0_pay19 dn) (ix2 r x)))
      (Scalar.select (IntOp.cmpi .slt (digits cur (ix2 r x)) 5#32) (IntOp.muli (digits cur (ix2 r x)) 4#32)
        (IntOp.subi (IntOp.muli (digits cur (ix2 r x)) 4#32) 20#32))) 7#32) : Ideal .f32)) = _
  rw [hA, hB, hD, own_cut]
  have e : (if inFirst (K (128 * b + r.val) x.val) then packedAt K (128 * b + r.val) x.val true else packedAt K (128 * b + r.val) x.val false)
      = packedAt K (128 * b + r.val) x.val (inFirst (K (128 * b + r.val) x.val)) := by
    cases inFirst (K (128 * b + r.val) x.val) <;> rfl
  rw [e, packedAt, packed_low, nibble_low, word_num _ (le_trans (near_le _ _ _ _ _) (by decide)), Ideal.ofBits_one_f32]
  rfl

/-- What is stored at the pixel for class `k`. -/
theorem classRows_at (k : Fin 11) : classRows w wt s cur up dn k (ix4 (0 : Fin 1) (0 : Fin 1) r x) = pixelAt w wt s K (128 * b + r.val) x.val k := by
  have hA := sumA_at K b hb cur up dn hc hu hd r x
  have hB := sumB_at K b hb cur up dn hc hu hd r x
  have hS := scale_at w wt s K b hb cur up dn hc hu hd r x
  have hst : ∀ v : FVec Ideal S128x2048 .f32, shapeCast S1x1x128x2048 v shapeCasts_S128x2048_S1x1x128x2048 (ix4 (0 : Fin 1) (0 : Fin 1) r x) = v (ix2 r x) := by
    intro v
    simp only [pointwise]
  have key : ∀ (N : IVec S128x2048 32) (row : FVec Ideal S1x1x128x2048 .f32),
      row = shapeCast S1x1x128x2048 (mulf (scale w wt s cur up dn) (minimumf (sitofp .f32 N) (broadcast S128x2048 (k0_pay25 (F := Ideal) w wt)))) shapeCasts_S128x2048_S1x1x128x2048 →
      N (ix2 r x) = BitVec.ofNat 32 (nibble (K (128 * b + r.val - 1) x.val) (K (min (128 * b + r.val + 1) 2047) x.val) (K (128 * b + r.val) (x.val - 1))
        (K (128 * b + r.val) (min (x.val + 1) 2047)) (K (128 * b + r.val) x.val) (inFirst k) (place k)) →
      row (ix4 (0 : Fin 1) (0 : Fin 1) r x) = pixelAt w wt s K (128 * b + r.val) x.val k := by
    intro N row hrow hn
    rw [hrow, hst]
    show scale w wt s cur up dn (ix2 r x) * min (FloatOps.sitofp .f32 (N (ix2 r x)) : Ideal .f32) (Ideal.div wt w) = _
    rw [hS, cut_num K _ _ k _ hn]
    rfl
  have fA : ∀ p : Fin 6, (sumA cur up dn (ix2 r x) >>> (4 * p.val)) &&& 15#32 = _ := fun p => by
    rw [hA, packedAt, packed_field]
  have fB : ∀ p : Fin 6, (sumB cur up dn (ix2 r x) >>> (4 * p.val)) &&& 15#32 = _ := fun p => by
    rw [hB, packedAt, packed_field]
  have z : ∀ W : BitVec 32, W &&& 15#32 = (W >>> (4 * (0 : Fin 6).val)) &&& 15#32 := fun W => by
    show _ = (W >>> (0 : ℕ)) &&& 15#32
    rw [BitVec.ushiftRight_zero]
  have tA := (congrArg (fun z : BitVec 32 => z >>> (16 : ℕ)) hA).trans (packed_top_first _ _ _ _ _)
  have tB := (congrArg (fun z : BitVec 32 => z >>> (20 : ℕ)) hB).trans (packed_top_second _ _ _ _ _)
  match k with
  | 0 => exact key _ _ rfl (fA 1)
  | 1 => exact key _ _ rfl (fA 2)
  | 2 => exact key _ _ rfl (fA 3)
  | 3 => exact key _ _ rfl tA
  | 4 => exact key _ _ rfl ((z _).trans (fB 0))
  | 5 => exact key _ _ rfl (fB 1)
  | 6 => exact key _ _ rfl (fB 2)
  | 7 => exact key _ _ rfl (fB 3)
  | 8 => exact key _ _ rfl (fB 4)
  | 9 => exact key _ _ rfl ((z _).trans (fA 0))
  | 10 => exact key _ _ rfl tB

end Stored

/-! ## The whole result -/

section Whole
variable (c : Dev nD) (XT : Buf (Elt Ideal) (tgtM.view.loc (c : Thread nD τ))) (w wt s : EReal) (K : ℕ → ℕ → Fin 11)
  (hK : ∀ j, words c XT j = code (K (j 0).val (j 1).val))
include hK

/-- Every element of the result array, where the target holds class codes. -/
theorem resAll_at (k : Fin 11) (R x : Fin 2048) : resAll c XT w wt s (ix3 k R x) = pixelAt w wt s K R.val x.val k := by
  have hR := R.isLt
  have h := classRows_at w wt s K (R.val / 128) (by omega) (rowsAt c XT ⟨R.val / 128, by omega⟩) (upOf c XT ⟨R.val / 128, by omega⟩) (dnOf c XT ⟨R.val / 128, by omega⟩)
    (fun j => hK _) (fun j => hK _) (fun j => hK _) ⟨R.val % 128, by omega⟩ x k
  have e : 128 * (R.val / 128) + R.val % 128 = R.val := by omega
  exact h.trans (congrArg (fun n => pixelAt w wt s K n x.val k) e)

end Whole

end Cert.Proof.Stencil

end
-- ==== Proof.Ref.lean ====
/-
  The reference at a pixel: the one-hot planes, their edge-padded copy read at a clamped neighbour, the sum of nine
  shifted products reduced to the four neighbours, and the division by the floored sum over the classes.
-/
module

public import proofs.«01_k».proof.Proof.Gen.ReferenceIdeal.Run
public import proofs.«01_k».proof.Proof.Count
public import Idealize.ShloMosaic.Lib.Pointwise
public import Idealize.ShloMosaic.Lib.Pipeline.Value
public import Idealize.ShloMosaic.Lib.IdealHost

@[expose] public section

set_option maxRecDepth 16384

noncomputable section

namespace Cert.Proof.Stencil.Ref

open Cert.ReferenceIdeal Cert.ReferenceIdeal.Gen Cert.ReferenceIdeal.Value
open Idealize.ShloMosaic Idealize.ShloMosaic.TcCoe
open scoped BigOperators

/-- One where the two classes agree, zero elsewhere. -/
def one (a k : Fin 11) : EReal := if a = k then 1 else 0

/-- The row or column of the picture that a row or column of the padded picture repeats. -/
def clamp (i : Fin 2050) : Fin 2048 := ⟨min (i.val - 1) 2047, by omega⟩

/-- The nine weights of a cross add up to four of its weight. -/
theorem nine (w : EReal) : (∑ i : Fin 3, ∑ j : Fin 3, if (i.val + j.val) % 2 = 1 then w else 0) = w + w + w + w := by
  simp [Fin.sum_univ_three, add_assoc]

/-- Codes tell classes apart. -/
theorem code_inj (a k : Fin 11) : (code a = code k) ↔ a = k := by revert a k; decide

section
variable (L : Valuation τ sig (Elt Ideal)) (K : ℕ → ℕ → Fin 11) (w : EReal)

/-- The target the reference is given. -/
abbrev T : S1x2048x2048.Idx → BitVec 32 := L (Proc.devRef .tc main_arg0)
/-- The classes the reference is given. -/
abbrev C : S11.Idx → BitVec 32 := L (Proc.devRef .tc main_arg1)
/-- The kernels the reference is given. -/
abbrev W : S11x1x3x3.Idx → EReal := L (Proc.devRef .tc main_arg2)
/-- The one-hot planes. -/
abbrev hot : S1x11x2048x2048.Idx → EReal := res_main_v5 (F := Ideal) L
/-- The planes with the first and the last row repeated. -/
abbrev rows : S1x11x2050x2048.Idx → EReal := res_main_v8 (F := Ideal) L
/-- Those with the first and the last column repeated as well. -/
abbrev pads : S1x11x2050x2050.Idx → EReal := res_main_v11 (F := Ideal) L
/-- The values that are divided. -/
abbrev vals : S1x11x2048x2048.Idx → EReal := res_main_v82 (F := Ideal) L

/-- The planes with rows repeated, at a row and column. -/
theorem rows_at (k : Fin 11) (i : Fin 2050) (x : Fin 2048) : rows L (ix4 (0 : Fin 1) k i x) = hot L (ix4 (0 : Fin 1) k (clamp i) x) := by
  unfold rows res_main_v8
  show _ = (res_main_v5 (F := Ideal) L : S1x11x2048x2048.Idx → EReal) _
  generalize (res_main_v5 (F := Ideal) L : S1x11x2048x2048.Idx → EReal) = v
  simp only [pointwise]
  have hi := i.isLt
  by_cases h0 : i.val < 1
  · have e : (clamp i) = (0 : Fin 2048) := Fin.ext (by simp only [clamp]; show min (i.val - 1) 2047 = 0; omega)
    rw [e, dif_pos (show i.val < ![1, 11, 1, 2048] 2 from h0)]
    simp
  · rw [dif_neg (show ¬ i.val < ![1, 11, 1, 2048] 2 from h0)]
    by_cases h1 : i.val - 1 < 2048
    · have e : (clamp i) = (⟨i.val - 1, h1⟩ : Fin 2048) := Fin.ext (by simp only [clamp]; omega)
      rw [e, dif_pos (show i.val - ![1, 11, 1, 2048] 2 < ![1, 11, 2048, 2048] 2 from h1)]
      simp
    · have e : (clamp i) = (2047 : Fin 2048) := Fin.ext (by simp only [clamp]; show min (i.val - 1) 2047 = 2047; omega)
      rw [e, dif_neg (show ¬ i.val - ![1, 11, 1, 2048] 2 < ![1, 11, 2048, 2048] 2 from h1)]
      simp

/-- The padded planes at a row and column. -/
theorem pads_at (k : Fin 11) (i j : Fin 2050) : pads L (ix4 (0 : Fin 1) k i j) = hot L (ix4 (0 : Fin 1) k (clamp i) (clamp j)) := by
  rw [← rows_at]
  unfold pads res_main_v11
  show _ = (res_main_v8 (F := Ideal) L : S1x11x2050x2048.Idx → EReal) _
  generalize (res_main_v8 (F := Ideal) L : S1x11x2050x2048.Idx → EReal) = v
  simp only [pointwise]
  have hj := j.isLt
  by_cases h0 : j.val < 1
  · have e : (clamp j) = (0 : Fin 2048) := Fin.ext (by simp only [clamp]; show min (j.val - 1) 2047 = 0; omega)
    rw [e, dif_pos (show j.val < ![1, 11, 2050, 1] 3 from h0)]
    simp
  · rw [dif_neg (show ¬ j.val < ![1, 11, 2050, 1] 3 from h0)]
    by_cases h1 : j.val - 1 < 2048
    · have e : (clamp j) = (⟨j.val - 1, h1⟩ : Fin 2048) := Fin.ext (by simp only [clamp]; omega)
      rw [e, dif_pos (show j.val - ![1, 11, 2050, 1] 3 < ![1, 11, 2050, 2048] 3 from h1)]
      simp
    · have e : (clamp j) = (2047 : Fin 2048) := Fin.ext (by simp only [clamp]; show min (j.val - 1) 2047 = 2047; omega)
      rw [e, dif_neg (show ¬ j.val - ![1, 11, 2050, 1] 3 < ![1, 11, 2050, 2048] 3 from h1)]
      simp

variable (hT : ∀ r x : Fin 2048, T L (ix3 (0 : Fin 1) r x) = code (K r.val x.val)) (hC : ∀ k : Fin 11, C L (ix1 k) = code k)
variable (hW : ∀ (k : Fin 11) (i j : Fin 3), W L (ix4 k (0 : Fin 1) i j) = if (i.val + j.val) % 2 = 1 then w else 0)

include hT hC in
/-- A plane is one where its class is the pixel's. -/
theorem hot_at (k : Fin 11) (r x : Fin 2048) : hot L (ix4 (0 : Fin 1) k r x) = one (K r.val x.val) k := by
  unfold hot res_main_v5
  simp only [pointwise]
  have e : FloatOps.uitofp (F := Ideal) FTy.f32 (IntOp.cmpi CmpIPredicate.eq (T L (ix3 (0 : Fin 1) r x)) (C L (ix1 k))) = one (K r.val x.val) k := by
    rw [hT, hC]
    unfold one
    by_cases h : K r.val x.val = k
    · rw [if_pos h, h]
      simp [FloatOps.uitofp, IntOp.cmpi]
    · rw [if_neg h]
      have hn : ¬ code (K r.val x.val) = code k := fun q => h ((code_inj _ _).1 q)
      simp [FloatOps.uitofp, IntOp.cmpi, hn]
  exact e

include hT hC hW in
/-- The values that are divided, at a pixel: the weight of its own class, or the weights of the neighbours of the class. -/
theorem val_at (k : Fin 11) (r x : Fin 2048) :
    vals L (ix4 (0 : Fin 1) k r x) = if K r.val x.val = k then (w + w + w + w) * Ideal.ofBits .f32 0x3F900000#32
      else w * one (K (r.val - 1) x.val) k + w * one (K r.val (x.val - 1)) k + w * one (K r.val (min (x.val + 1) 2047)) k + w * one (K (min (r.val + 1) 2047) x.val) k := by
  have hp : ∀ (k : Fin 11) (i j : Fin 2050), (res_main_v11 (F := Ideal) L : S1x11x2050x2050.Idx → EReal) (ix4 (0 : Fin 1) k i j)
      = one (K (min (i.val - 1) 2047) (min (j.val - 1) 2047)) k := fun k i j => by
    exact (pads_at L k i j).trans (hot_at L K hT hC k (clamp i) (clamp j))
  have h5 : (res_main_v5 (F := Ideal) L : S1x11x2048x2048.Idx → EReal) (ix4 (0 : Fin 1) k r x) = one (K r.val x.val) k := hot_at L K hT hC k r x
  unfold vals res_main_v82
  revert hp h5
  generalize (res_main_v5 (F := Ideal) L : S1x11x2048x2048.Idx → EReal) = v5
  generalize (res_main_v11 (F := Ideal) L : S1x11x2050x2050.Idx → EReal) = v11
  intro hp h5
  simp only [pointwise]
  change ∀ (k : Fin 11) (i j : Fin 3), L (Proc.devRef .tc main_arg2) (ix4 k (0 : Fin 1) i j) = if (i.val + j.val) % 2 = 1 then w else 0 at hW
  simp [hp, h5, hW]
  have hr : min r.val 2047 = r.val := by omega
  have hx : min x.val 2047 = x.val := by omega
  rw [hr, hx, Nat.add_comm 1 x.val, Nat.add_comm 1 r.val, nine w]
  unfold one
  by_cases h : K r.val x.val = k
  · simp only [if_pos h, if_true]
  · simp only [if_neg h, zero_ne_one, if_false]

/-- The result at a pixel: its value over the sum of the values of the classes, or over the floor where that is larger. -/
theorem out_at (v : S1x11x2048x2048.Idx → EReal) (k : Fin 11) (r x : Fin 2048) :
    (shapeCast S11x2048x2048 (Host.divf (F := Ideal) (φ := .f32) v (broadcastInDim S1x11x2048x2048 ![0, 1, 2, 3] bcast_S1x1x2048x2048_S1x11x2048x2048_0_1_2_3 (maximumf (broadcastInDim S1x1x2048x2048 ![0, 2, 3] bcast_S1x2048x2048_S1x1x2048x2048_0_2_3 (Host.reduceAdd v (constant S_ .f32 0x00000000#32) reducesTo_S1x11x2048x2048_S1x2048x2048_d1 h_S_)) (broadcastInDim S1x1x2048x2048 ![] bcast_S_S1x1x2048x2048 (constant S_ .f32 0x33D6BF95#32))))) shapeCasts_S1x11x2048x2048_S11x2048x2048 : S11x2048x2048.Idx → EReal) (ix3 k r x)
    = Ideal.div (v (ix4 (0 : Fin 1) k r x)) (max (0 + ∑ a : Fin 11, v (ix4 (0 : Fin 1) a r x)) (Ideal.ofBits .f32 0x33D6BF95#32)) := by
  simp only [pointwise]
  rfl
end

end Cert.Proof.Stencil.Ref

end
-- ==== Proof.Equal.lean ====
/-
  The kernel's arithmetic at a pixel is the reference's: with weight `w`, a pixel whose own class has `n` of its four
  neighbours has values that add up to `(8.5 - n) w` over the classes, which is never below the floor; and the kernel's
  minimum with 4.5 picks the own class's weight where the count was raised by eight and the count elsewhere.
-/
module

public import proofs.«01_k».proof.Proof.Pixel
public import proofs.«01_k».proof.Proof.Ref

@[expose] public section

noncomputable section

namespace Cert.Proof.Stencil

open Idealize.ShloMosaic
open scoped BigOperators

/-! ## The constants -/

/-- The factor on a pixel's own weight is 9/8. -/
theorem ofBits_own : Ideal.ofBits .f32 0x3F900000#32 = ((9 / 8 : ℝ) : EReal) := by
  simp [Ideal.ofBits, Ideal.ieee, -EReal.coe_mul]; norm_num

/-- The factor of the precondition is 9/2. -/
theorem ofBits_half : Ideal.ofBits .f32 0x40900000#32 = ((9 / 2 : ℝ) : EReal) := by
  simp [Ideal.ofBits, Ideal.ieee, -EReal.coe_mul]; norm_num

/-- The floor is a positive real. -/
theorem ofBits_floor : ∃ e : ℝ, 0 < e ∧ Ideal.ofBits .f32 0x33D6BF95#32 = (e : EReal) := by
  refine ⟨14073749 / 2 ^ 47, by norm_num, ?_⟩
  simp [Ideal.ofBits, Ideal.ieee, -EReal.coe_mul]; norm_num

/-! ## Real arithmetic read in the extended reals -/

/-- A quotient of reals. -/
theorem div_real (a b : ℝ) (hb : b ≠ 0) : Ideal.div (a : EReal) (b : EReal) = ((a * b⁻¹ : ℝ) : EReal) := by
  unfold Ideal.div
  rw [if_neg (fun h => hb (EReal.coe_eq_zero.1 h)), EReal.coe_mul, EReal.coe_inv]

/-- A sum of reals. -/
theorem sum_real {ι : Type} (s : Finset ι) (f : ι → ℝ) : (∑ a ∈ s, (f a : EReal)) = ((∑ a ∈ s, f a : ℝ) : EReal) := by
  classical
  induction s using Finset.induction_on with
  | empty => simp
  | insert a s ha ih => rw [Finset.sum_insert ha, Finset.sum_insert ha, ih, EReal.coe_add]

/-- Whether two classes agree, as a real. -/
theorem one_real (a k : Fin 11) : Ref.one a k = (((if a = k then 1 else 0 : ℕ) : ℝ) : EReal) := by
  unfold Ref.one
  split <;> simp

/-- Over the classes, the counts of a pixel's neighbours add up to four. -/
theorem near_sum (u d l r : Fin 11) : (∑ a : Fin 11, (near u d l r a : ℝ)) = 4 := by
  simp only [near, Nat.cast_add, Finset.sum_add_distrib, Nat.cast_ite, Nat.cast_one, Nat.cast_zero, Finset.sum_ite_eq, Finset.mem_univ, if_true]
  norm_num

/-! ## The values of the reference -/

/-- The reference's value of class `a` at a pixel of class `m`. -/
def value (w : EReal) (u d l r m a : Fin 11) : EReal :=
  if m = a then (w + w + w + w) * Ideal.ofBits .f32 0x3F900000#32
  else w * Ref.one u a + w * Ref.one l a + w * Ref.one r a + w * Ref.one d a

/-- The reference's quotient of class `k`. -/
def quotient (w : EReal) (u d l r m k : Fin 11) : EReal :=
  Ideal.div (value w u d l r m k) (max (0 + ∑ a : Fin 11, value w u d l r m a) (Ideal.ofBits .f32 0x33D6BF95#32))

/-- How often a class counts: nine halves for the pixel's own, once for each neighbour otherwise. -/
def times (u d l r m a : Fin 11) : ℝ := if m = a then 9 / 2 else (near u d l r a : ℝ)

/-- With a real weight, a value is the weight times how often the class counts. -/
theorem value_real (x : ℝ) (u d l r m a : Fin 11) : value (x : EReal) u d l r m a = ((x * times u d l r m a : ℝ) : EReal) := by
  unfold value times
  rw [ofBits_own]
  by_cases h : m = a
  · rw [if_pos h, if_pos h]
    norm_cast
    ring
  · rw [if_neg h, if_neg h]
    simp only [one_real, ← EReal.coe_mul, ← EReal.coe_add, near]
    congr 1
    push_cast
    ring

/-- The counts add up to eight and a half less the neighbours of the pixel's own class. -/
theorem times_sum (u d l r m : Fin 11) : (∑ a : Fin 11, times u d l r m a) = 17 / 2 - (near u d l r m : ℝ) := by
  have e : ∀ a, times u d l r m a = (near u d l r a : ℝ) + (if m = a then 9 / 2 - (near u d l r m : ℝ) else 0) := fun a => by
    unfold times
    by_cases h : m = a
    · subst h; rw [if_pos rfl, if_pos rfl]; ring
    · rw [if_neg h, if_neg h, add_zero]
  rw [Finset.sum_congr rfl (fun a _ => e a), Finset.sum_add_distrib, near_sum, Finset.sum_ite_eq, if_pos (Finset.mem_univ _)]
  ring

/-- The kernel's capped count. -/
theorem capped (u d l r m k : Fin 11) :
    min (num (near u d l r k + if m = k then 8 else 0)) ((9 / 2 : ℝ) : EReal) = ((times u d l r m k : ℝ) : EReal) := by
  have h4 : (near u d l r k : ℝ) ≤ 4 := by exact_mod_cast near_le u d l r k
  have h0 : (0 : ℝ) ≤ (near u d l r k : ℝ) := Nat.cast_nonneg _
  unfold num times
  by_cases h : m = k
  · rw [if_pos h, if_pos h]
    refine min_eq_right (EReal.coe_le_coe_iff.2 ?_)
    push_cast
    linarith
  · rw [if_neg h, if_neg h, Nat.add_zero]
    refine min_eq_left (EReal.coe_le_coe_iff.2 ?_)
    linarith

/-! ## The two results -/

/-- With a real weight that is not too small, the two results are one. -/
theorem equal_real (x : ℝ) (hx : Ideal.ofBits .f32 0x33D6BF95#32 ≤ (x : EReal) * Ideal.ofBits .f32 0x40900000#32) (u d l r m k : Fin 11) :
    pixel (x : EReal) (((x : EReal) + x + x + x) * Ideal.ofBits .f32 0x3F900000#32) ((x : EReal) + x + x + x) u d l r m k
      = quotient (x : EReal) u d l r m k := by
  obtain ⟨e, he, hE⟩ := ofBits_floor
  rw [hE, ofBits_half, ← EReal.coe_mul, EReal.coe_le_coe_iff] at hx
  have hpos : 0 < x := by linarith
  have h4 : (near u d l r m : ℝ) ≤ 4 := by exact_mod_cast near_le u d l r m
  have hD : 0 < x * (17 / 2 - (near u d l r m : ℝ)) := mul_pos hpos (by linarith)
  have hf : e ≤ x * (17 / 2 - (near u d l r m : ℝ)) := by nlinarith
  have hq : quotient (x : EReal) u d l r m k = ((x * times u d l r m k * (x * (17 / 2 - (near u d l r m : ℝ)))⁻¹ : ℝ) : EReal) := by
    unfold quotient
    simp only [value_real]
    rw [sum_real, ← Finset.mul_sum, times_sum, hE, zero_add, max_eq_left (EReal.coe_le_coe_iff.2 hf), div_real _ _ hD.ne']
  have hs : (x : EReal) + x + x + x = ((4 * x : ℝ) : EReal) := by
    rw [← EReal.coe_add, ← EReal.coe_add, ← EReal.coe_add]; congr 1; ring
  have hwt : ((4 * x : ℝ) : EReal) * ((9 / 8 : ℝ) : EReal) = ((9 / 2 * x : ℝ) : EReal) := by
    rw [← EReal.coe_mul]; congr 1; ring
  have hc : Ideal.div ((9 / 2 * x : ℝ) : EReal) (x : EReal) = ((9 / 2 : ℝ) : EReal) := by
    rw [div_real _ _ hpos.ne']; congr 1; field_simp
  have hden : ((9 / 2 * x : ℝ) : EReal) + ((4 * x : ℝ) : EReal) - (x : EReal) * num (near u d l r m)
      = ((x * (17 / 2 - (near u d l r m : ℝ)) : ℝ) : EReal) := by
    unfold num
    rw [← EReal.coe_mul, ← EReal.coe_add, ← EReal.coe_sub]; congr 1; ring
  have h1 : Ideal.div 1 ((x * (17 / 2 - (near u d l r m : ℝ)) : ℝ) : EReal) = (((x * (17 / 2 - (near u d l r m : ℝ)))⁻¹ : ℝ) : EReal) := by
    rw [← EReal.coe_one, div_real _ _ hD.ne', one_mul]
  rw [hq]
  unfold pixel
  rw [ofBits_own, hs, hwt, hc, hden, h1, capped, ← EReal.coe_mul, ← EReal.coe_mul]
  congr 1
  ring

/-- Dividing by an infinity gives zero. -/
theorem div_top (y : EReal) : Ideal.div y ⊤ = 0 := by
  unfold Ideal.div
  rw [if_neg EReal.top_ne_zero, EReal.inv_top, mul_zero]
theorem div_bot (y : EReal) : Ideal.div y ⊥ = 0 := by
  unfold Ideal.div
  rw [if_neg EReal.bot_ne_zero, EReal.inv_bot, mul_zero]

/-- With an infinite weight both results are zero. -/
theorem equal_top (u d l r m k : Fin 11) :
    pixel ⊤ (((⊤ : EReal) + ⊤ + ⊤ + ⊤) * Ideal.ofBits .f32 0x3F900000#32) ((⊤ : EReal) + ⊤ + ⊤ + ⊤) u d l r m k = quotient ⊤ u d l r m k := by
  have h4 : (⊤ : EReal) + ⊤ + ⊤ + ⊤ = ⊤ := rfl
  have hown : (⊤ : EReal) * Ideal.ofBits .f32 0x3F900000#32 = ⊤ := by
    rw [ofBits_own]; exact EReal.top_mul_coe_of_pos (by norm_num)
  have hone : ∀ a b : Fin 11, 0 ≤ (⊤ : EReal) * Ref.one a b := fun a b => by
    unfold Ref.one; split <;> simp
  have hv : ∀ a, 0 ≤ value ⊤ u d l r m a := fun a => by
    unfold value
    rw [h4, hown]
    split
    · exact le_top
    · exact add_nonneg (add_nonneg (add_nonneg (hone _ _) (hone _ _)) (hone _ _)) (hone _ _)
  have hm : value ⊤ u d l r m m = ⊤ := by
    unfold value; rw [if_pos rfl, h4, hown]
  have hsum : (∑ a : Fin 11, value ⊤ u d l r m a) = ⊤ :=
    top_le_iff.1 (hm.symm.le.trans (Finset.single_le_sum (fun a _ => hv a) (Finset.mem_univ m)))
  have hq : quotient ⊤ u d l r m k = 0 := by
    unfold quotient
    rw [hsum, zero_add, max_eq_left le_top, div_top]
  have hden : Ideal.div 1 ((⊤ : EReal) + ⊤ - ⊤ * num (near u d l r m)) = 0 := by
    have ht : (⊤ : EReal) + ⊤ = ⊤ := rfl
    rw [ht]
    unfold num
    rcases Nat.eq_zero_or_pos (near u d l r m) with h | h
    · rw [h, Nat.cast_zero, EReal.coe_zero, mul_zero, sub_zero, div_top]
    · rw [EReal.top_mul_coe_of_pos (by exact_mod_cast h), EReal.sub_top, div_bot]
  rw [hq]
  unfold pixel
  rw [h4, hown, hden, mul_zero, zero_mul]

/-- The two results are one at every weight the precondition admits. -/
theorem equal (w : EReal) (hw : Ideal.ofBits .f32 0x33D6BF95#32 ≤ w * Ideal.ofBits .f32 0x40900000#32) (u d l r m k : Fin 11) :
    pixel w ((w + w + w + w) * Ideal.ofBits .f32 0x3F900000#32) (w + w + w + w) u d l r m k = quotient w u d l r m k := by
  induction w using EReal.rec with
  | bot =>
    obtain ⟨e, he, hE⟩ := ofBits_floor
    rw [hE, ofBits_half, EReal.bot_mul_coe_of_pos (by norm_num)] at hw
    exact absurd (le_bot_iff.1 hw) (EReal.coe_ne_bot e)
  | coe x => exact equal_real x hw u d l r m k
  | top => exact equal_top u d l r m k

end Cert.Proof.Stencil

end
-- ==== Proof.Algebraic.lean ====
/-
  The two programs' results are one array: the kernel's, read at a pixel, is the quotient of the module on the
  arithmetic, and so is the reference's, from the same target, classes and kernels.
-/
module

public import proofs.«01_k».proof.Proof.Params
public import proofs.«01_k».proof.Proof.Pre
public import proofs.«01_k».proof.Proof.Equal

@[expose] public section

set_option maxRecDepth 16384

noncomputable section

namespace Cert.Proof.Stencil

open Idealize.ShloMosaic Idealize.ShloMosaic.TcCoe
open Idealize.SL Idealize.SL.Sem
open scoped BigOperators

/-! ## The scalars of the kernel -/

/-- The nine weights of a cross add up to four of its weight. -/
theorem total_eq (f : Cert.KernelIdeal.S11x1x3x3.Idx → EReal) (w : EReal)
    (hf : ∀ (k : Fin 11) (i j : Fin 3), f (ix4 k (0 : Fin 1) i j) = if (i.val + j.val) % 2 = 1 then w else 0) :
    total (F := Ideal) f nil = w + w + w + w := by
  unfold total
  simp only [pointwise]
  simp [hf]
  exact Ref.nine w

/-! ## The class of each pixel -/

/-- A target of class codes has a class at each row and column. -/
theorem class_of (T : Cert.Pre_cross_of_class_codes.S1x2048x2048.Idx → BitVec 32) (hT : ∀ i, ∃ k, T i = code k) :
    ∃ K : ℕ → ℕ → Fin 11, ∀ r x : Fin 2048, T (ix3 (0 : Fin 1) r x) = code (K r.val x.val) := by
  choose g hg using hT
  refine ⟨fun r x => if h : r < 2048 ∧ x < 2048 then g (ix3 (0 : Fin 1) ⟨r, h.1⟩ ⟨x, h.2⟩) else 0, fun r x => ?_⟩
  show T (ix3 0 r x) = code (if h : r.val < 2048 ∧ x.val < 2048 then g (ix3 0 ⟨r.val, h.1⟩ ⟨x.val, h.2⟩) else 0)
  rw [dif_pos ⟨r.isLt, x.isLt⟩]
  exact hg _

/-! ## The two results at a pixel -/

/-- The kernel's result at a pixel. -/
theorem kernel_at (m : (ℓ : Loc Cert.KernelIdeal.nD Cert.KernelIdeal.τ Cert.KernelIdeal.sig) → Buf (Elt Ideal) ℓ) (c : Dev Cert.KernelIdeal.nD)
    (D : Decoded (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
    (w : EReal) (hw : w = (m ((c.tc : Thread Cert.KernelIdeal.nD Cert.KernelIdeal.τ).loc Cert.KernelIdeal.main_arg2) : Cert.KernelIdeal.S11x1x3x3.Idx → EReal) (ix4 (0 : Fin 11) (0 : Fin 1) (0 : Fin 3) (1 : Fin 3)))
    (K : ℕ → ℕ → Fin 11)
    (hK : ∀ r x : Fin 2048, (m ((c.tc : Thread Cert.KernelIdeal.nD Cert.KernelIdeal.τ).loc Cert.KernelIdeal.main_arg0) : Cert.KernelIdeal.S1x2048x2048.Idx → BitVec 32) (ix3 (0 : Fin 1) r x) = code (K r.val x.val))
    (k : Fin 11) (R x : Fin 2048) :
    resAll c (XTof m c) (wAt m c) (wtAt m c) (sAt m c) (ix3 k R x)
      = quotient w (K (R.val - 1) x.val) (K (min (R.val + 1) 2047) x.val) (K R.val (x.val - 1)) (K R.val (min (x.val + 1) 2047)) (K R.val x.val) k := by
  have hC : ∀ (k : Fin 11) (i j : Fin 3), (m ((c.tc : Thread Cert.KernelIdeal.nD Cert.KernelIdeal.τ).loc Cert.KernelIdeal.main_arg2) : Cert.KernelIdeal.S11x1x3x3.Idx → EReal) (ix4 k (0 : Fin 1) i j) = if (i.val + j.val) % 2 = 1 then w else 0 :=
    fun k i j => by rw [hw]; exact D.cross k i j
  have hs : sAt m c = w + w + w + w := (sAt_eq m c).trans (total_eq _ w hC)
  have hwt : wtAt m c = (w + w + w + w) * Ideal.ofBits .f32 0x3F900000#32 :=
    (wtAt_eq m c).trans (congrArg (fun z : EReal => z * Ideal.ofBits .f32 0x3F900000#32) (total_eq _ w hC))
  have hw' : wAt m c = w := (wAt_eq m c).trans hw.symm
  rw [hs, hwt, hw']
  refine (resAll_at c (XTof m c) _ _ _ K (fun j => (words_at m c j).trans (hK (j 0) (j 1))) k R x).trans ?_
  unfold pixelAt
  refine equal w ?_ _ _ _ _ _ _
  rw [hw]
  exact D.floor

/-- The reference's result at a pixel. -/
theorem reference_at (L : Valuation Cert.ReferenceIdeal.τ Cert.ReferenceIdeal.sig (Elt Ideal)) (D : Decoded (Ref.T L) (Ref.C L) (Ref.W L))
    (w : EReal) (hw : w = Ref.W L (ix4 (0 : Fin 11) (0 : Fin 1) (0 : Fin 3) (1 : Fin 3)))
    (K : ℕ → ℕ → Fin 11) (hK : ∀ r x : Fin 2048, Ref.T L (ix3 (0 : Fin 1) r x) = code (K r.val x.val)) (k : Fin 11) (R x : Fin 2048) :
    Ideal.div (Ref.vals L (ix4 (0 : Fin 1) k R x)) (max (0 + ∑ a : Fin 11, Ref.vals L (ix4 (0 : Fin 1) a R x)) (Ideal.ofBits .f32 0x33D6BF95#32))
      = quotient w (K (R.val - 1) x.val) (K (min (R.val + 1) 2047) x.val) (K R.val (x.val - 1)) (K R.val (min (x.val + 1) 2047)) (K R.val x.val) k := by
  have hC : ∀ (k : Fin 11) (i j : Fin 3), Ref.W L (ix4 k (0 : Fin 1) i j) = if (i.val + j.val) % 2 = 1 then w else 0 :=
    fun k i j => by rw [hw]; exact D.cross k i j
  have hv : ∀ a : Fin 11, Ref.vals L (ix4 (0 : Fin 1) a R x)
      = value w (K (R.val - 1) x.val) (K (min (R.val + 1) 2047) x.val) (K R.val (x.val - 1)) (K R.val (min (x.val + 1) 2047)) (K R.val x.val) a :=
    fun a => Ref.val_at L K w hK D.classes hC a R x
  rw [hv k, Finset.sum_congr rfl (fun a _ => hv a)]
  rfl

/-! ## The claim -/

variable [Cert.Pre_cross_of_class_codes.Facts]

/-- From equal arguments that satisfy the precondition the two programs end with equal results. -/
theorem algebraic : Cert.algebraic_KernelIdeal_ReferenceIdeal_pre_cross_of_class_codes := by
  intro m g m' g' hpre harg
  have hD : ∀ c : Dev Cert.KernelIdeal.nD, Decoded (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) :=
    fun c => decode _ _ _ (hpre c).1 (hpre c).2.1 (hpre c).2.2.1 (hpre c).2.2.2
  refine ⟨fun c => resAll c (XTof m c) (wAt m c) (wtAt m c) (sAt m c), ?_, ?_⟩
  · exact (θ_run Cert.KernelIdeal.defs _ _).mono (fun _ h c => ⟨(h.1 c).2, (h.1 c).1⟩) (run_args m g)
  · refine (θ_run Cert.ReferenceIdeal.defs _ _).mono (fun _ h c => ⟨(h c).1.trans ?_, (h c).2⟩) (Cert.ReferenceIdeal.Value.run m' g')
    obtain ⟨K, hK⟩ := class_of _ (hD c).target
    have D' : Decoded (Ref.T (StableHlo.launchContents m' c)) (Ref.C (StableHlo.launchContents m' c)) (Ref.W (StableHlo.launchContents m' c)) := by
      have h := hD c
      rw [← (harg c).1, ← (harg c).2.1, ← (harg c).2.2] at h
      exact h
    have hw : (m ((c.tc : Thread Cert.KernelIdeal.nD Cert.KernelIdeal.τ).loc Cert.KernelIdeal.main_arg2) : Cert.KernelIdeal.S11x1x3x3.Idx → EReal) (ix4 (0 : Fin 11) (0 : Fin 1) (0 : Fin 3) (1 : Fin 3))
        = Ref.W (StableHlo.launchContents m' c) (ix4 (0 : Fin 11) (0 : Fin 1) (0 : Fin 3) (1 : Fin 3)) :=
      congrFun (harg c).2.2.symm _
    funext j
    obtain ⟨k, R, x, rfl⟩ : ∃ (k : Fin 11) (R x : Fin 2048), j = ix3 k R x :=
      ⟨j 0, j 1, j 2, funext fun a => by match a with | ⟨0, _⟩ | ⟨1, _⟩ | ⟨2, _⟩ => rfl⟩
    refine (Ref.out_at (Ref.vals (StableHlo.launchContents m' c)) k R x).trans ?_
    refine (reference_at (StableHlo.launchContents m' c) D' _ hw K (fun r x => (congrFun (harg c).1 _).trans (hK r x)) k R x).trans ?_
    exact (kernel_at m c (hD c) _ rfl K hK k R x).symm

end Cert.Proof.Stencil

end
-- ==== Proof.lean ====
/- `Cert.Claim`: the three frames, the idealization and the equality of the results over the extended reals, assembled
   from the modules under Proof/. -/
module

public import proofs.«01_k».proof.Defs
public import proofs.«01_k».proof.Proof.Frames
public import proofs.«01_k».proof.Proof.Algebraic
public import proofs.«01_k».proof.Proof.Gen.Pre_cross_of_class_codes
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

open Idealize.ShloMosaic Idealize.ShloMosaic.TcCoe
open Idealize.SL.Sem

theorem Cert.Proof.claim : Cert.Claim :=
  ⟨Cert.Kernel.Gen.facts, Cert.KernelIdeal.Gen.facts, Cert.ReferenceIdeal.Gen.facts, Cert.Pre_cross_of_class_codes.Gen.facts,
    Cert.Proof.frame_kernel, Cert.Proof.frame_ideal, fun m g _ => Cert.Proof.frame_ideal m g trivial,
    Cert.Proof.frame_reference, fun m g _ => Cert.Proof.frame_reference m g trivial, trivial, Cert.Proof.Stencil.algebraic⟩

end
